-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs_KernelIdeal [hPre_finite_inputs_KernelIdeal : Cert.Pre_finite_inputs_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_inputs_KernelIdeal [hKernelIdeal : Cert.KernelIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_inputs_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_inputs_KernelIdeal [hKernelIdeal : Cert.KernelIdeal.Facts] [hReferenceIdeal : Cert.ReferenceIdeal.Facts] [hPre_finite_inputs_KernelIdeal : Cert.Pre_finite_inputs_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs_KernelIdeal : Cert.Pre_finite_inputs_KernelIdeal.Facts) (hPre_finite_inputs_ReferenceIdeal : Cert.Pre_finite_inputs_ReferenceIdeal.Facts),
    quiescent_Kernel (hKernel := hKernel)
    ∧ quiescent_KernelIdeal (hKernelIdeal := hKernelIdeal)
    ∧ quiescent_KernelIdeal_pre_finite_inputs_KernelIdeal (hKernelIdeal := hKernelIdeal) (hPre_finite_inputs_KernelIdeal := hPre_finite_inputs_KernelIdeal)
    ∧ quiescent_ReferenceIdeal (hReferenceIdeal := hReferenceIdeal)
    ∧ quiescent_ReferenceIdeal_pre_finite_inputs_ReferenceIdeal (hReferenceIdeal := hReferenceIdeal) (hPre_finite_inputs_ReferenceIdeal := hPre_finite_inputs_ReferenceIdeal)
    ∧ preserves_Kernel_KernelIdeal
    ∧ algebraic_KernelIdeal_ReferenceIdeal_pre_finite_inputs_KernelIdeal (hKernelIdeal := hKernelIdeal) (hReferenceIdeal := hReferenceIdeal) (hPre_finite_inputs_KernelIdeal := hPre_finite_inputs_KernelIdeal)
-- ==== Pre_finite_inputs_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_inputs_ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x512x4x64 : S_.BroadcastsInDim S2x512x4x64 (![] : Fin 0 → Fin S2x512x4x64.rank)
  reducesTo_S2x512x4x64_S_d0_1_2_3 : S2x512x4x64.ReducesTo [0, 1, 2, 3] S_

variable [Facts]

def fn {F : FTy → Type} [FloatOps F] (main_arg0 : FVec F S2x128x512 .f32) (main_arg1 : FVec F S512x256 .f32) (main_arg2 : FVec F S2x512x4x64 .f32) (main_arg3 : FVec F S2x512x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x512x4x64 .f32 := Host.absf main_arg2
  let main_cst_2 : FVec F S_ .f32 := constant S_ .f32 0x7F800000#32
  let main_v10 : FVec F S2x512x4x64 .f32 := broadcastInDim S2x512x4x64 ![] bcast_S_S2x512x4x64 main_cst_2
  let main_v11 : IVec S2x512x4x64 1 := cmpf .olt main_v9 main_v10
  let main_c_3 : IVec S_ 1 := constantI S_ 1 1#1
  let main_v12 : IVec S_ 1 := (fun x v => Host.reduce IntOp.andi x v reducesTo_S2x512x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x2x128x256 : Shape := ⟨4, ![2, 2, 128, 256]⟩
abbrev S8 : Shape := ⟨1, ![8]⟩
abbrev S4 : Shape := ⟨1, ![4]⟩
abbrev S2 : Shape := ⟨1, ![2]⟩
abbrev S1 : Shape := ⟨1, ![1]⟩
abbrev S_ : Shape := ⟨0, ![]⟩
abbrev S1x128x4x64 : Shape := ⟨4, ![1, 128, 4, 64]⟩
abbrev S128x4x64 : Shape := ⟨3, ![128, 4, 64]⟩
abbrev S128x256 : Shape := ⟨2, ![128, 256]⟩
abbrev S1x1x128x256 : Shape := ⟨4, ![1, 1, 128, 256]⟩
abbrev S1x128x512 : Shape := ⟨3, ![1, 128, 512]⟩
abbrev S128x512 : Shape := ⟨2, ![128, 512]⟩
abbrev S1x1x128x64 : Shape := ⟨4, ![1, 1, 128, 64]⟩
abbrev S128x64 : Shape := ⟨2, ![128, 64]⟩
abbrev S64x64 : Shape := ⟨2, ![64, 64]⟩
abbrev S64x128 : Shape := ⟨2, ![64, 128]⟩
abbrev S64 : Shape := ⟨1, ![64]⟩
abbrev S64x1 : Shape := ⟨2, ![64, 1]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S2x2x128x256, .bf16⟩
  | .local _ .vmem, ⟨5, _⟩ => ⟨S2x128x4x64, .f32⟩
  | .local _ .vmem, ⟨6, _⟩ => ⟨S2x128x4x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v7 : BitVec 1 := Scalar.cmpi .eq v2 c1_i32_3
  let c3_i32 : BitVec 32 := 3#32
  let v8 : BitVec 1 := Scalar.cmpi .eq v2 c3_i32
  let v9 : BitVec 1 := Scalar.ori v7 v8
  let v10 : BitVec 32 := Scalar.extui v9
  let c0_i32_4 : BitVec 32 := 0#32
  let v11 : BitVec 1 := Scalar.cmpi .ne v10 c0_i32_4
  v11

def k0_dev1 : Nat :=
  let c0_i32_393 : BitVec 32 := 0#32
  let c0_i32_391 : BitVec 32 := 0#32
  let c1_i32_392 : BitVec 32 := 1#32
  let v343 : BitVec 32 := Scalar.muli c0_i32_391 c1_i32_392
  let v344 : BitVec 32 := Scalar.addi c0_i32_393 v343
  v344.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v12 : BitVec 1 := Scalar.cmpi .eq v2 c2_i32
  let v13 : BitVec 32 := Scalar.extui v12
  let c0_i32_5 : BitVec 32 := 0#32
  let v14 : BitVec 1 := Scalar.cmpi .ne v13 c0_i32_5
  v14

def k0_dev2 : Nat :=
  let c0_i32_393 : BitVec 32 := 0#32
  let c1_i32_391 : BitVec 32 := 1#32
  let c1_i32_392 : BitVec 32 := 1#32
  let v343 : BitVec 32 := Scalar.muli c1_i32_391 c1_i32_392
  let v344 : BitVec 32 := Scalar.addi c0_i32_393 v343
  v344.toNat
def k0_dev3 : Nat :=
  let c0_i32_397 : BitVec 32 := 0#32
  let c3_i32_395 : BitVec 32 := 3#32
  let c1_i32_396 : BitVec 32 := 1#32
  let v345 : BitVec 32 := Scalar.muli c3_i32_395 c1_i32_396
  let v346 : BitVec 32 := Scalar.addi c0_i32_397 v345
  v346.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_11 : BitVec 32 := 0#32
  let v23 : BitVec 1 := Scalar.cmpi .eq v2 c0_i32_11
  let v24 : BitVec 32 := Scalar.extui v23
  let c0_i32_59 : BitVec 32 := 0#32
  let v25 : BitVec 1 := Scalar.cmpi .ne v24 c0_i32_59
  v25

def k0_dev4 : Nat :=
  let c0_i32_408 : BitVec 32 := 0#32
  let c1_i32_406 : BitVec 32 := 1#32
  let c1_i32_407 : BitVec 32 := 1#32
  let v361 : BitVec 32 := Scalar.muli c1_i32_406 c1_i32_407
  let v362 : BitVec 32 := Scalar.addi c0_i32_408 v361
  v362.toNat
def k0_dev5 : Nat :=
  let c0_i32_415 : BitVec 32 := 0#32
  let c3_i32_413 : BitVec 32 := 3#32
  let c1_i32_414 : BitVec 32 := 1#32
  let v371 : BitVec 32 := Scalar.muli c3_i32_413 c1_i32_414
  let v372 : BitVec 32 := Scalar.addi c0_i32_415 v371
  v372.toNat
def k0_dev6 : Nat :=
  let c0_i32_422 : BitVec 32 := 0#32
  let c1_i32_420 : BitVec 32 := 1#32
  let c1_i32_421 : BitVec 32 := 1#32
  let v381 : BitVec 32 := Scalar.muli c1_i32_420 c1_i32_421
  let v382 : BitVec 32 := Scalar.addi c0_i32_422 v381
  v382.toNat
def k0_dev7 : Nat :=
  let c0_i32_429 : BitVec 32 := 0#32
  let c3_i32_427 : BitVec 32 := 3#32
  let c1_i32_428 : BitVec 32 := 1#32
  let v391 : BitVec 32 := Scalar.muli c3_i32_427 c1_i32_428
  let v392 : BitVec 32 := Scalar.addi c0_i32_429 v391
  v392.toNat
def k0_dev8 : Nat :=
  let c0_i32_452 : BitVec 32 := 0#32
  let c1_i32_450 : BitVec 32 := 1#32
  let c1_i32_451 : BitVec 32 := 1#32
  let v415 : BitVec 32 := Scalar.muli c1_i32_450 c1_i32_451
  let v416 : BitVec 32 := Scalar.addi c0_i32_452 v415
  v416.toNat
def k0_dev9 : Nat :=
  let c0_i32_459 : BitVec 32 := 0#32
  let c3_i32_457 : BitVec 32 := 3#32
  let c1_i32_458 : BitVec 32 := 1#32
  let v425 : BitVec 32 := Scalar.muli c3_i32_457 c1_i32_458
  let v426 : BitVec 32 := Scalar.addi c0_i32_459 v425
  v426.toNat
def k0_dev10 : Nat :=
  let c0_i32_466 : BitVec 32 := 0#32
  let c1_i32_464 : BitVec 32 := 1#32
  let c1_i32_465 : BitVec 32 := 1#32
  let v435 : BitVec 32 := Scalar.muli c1_i32_464 c1_i32_465
  let v436 : BitVec 32 := Scalar.addi c0_i32_466 v435
  v436.toNat
def k0_dev11 : Nat :=
  let c0_i32_473 : BitVec 32 := 0#32
  let c3_i32_471 : BitVec 32 := 3#32
  let c1_i32_472 : BitVec 32 := 1#32
  let v445 : BitVec 32 := Scalar.muli c3_i32_471 c1_i32_472
  let v446 : BitVec 32 := Scalar.addi c0_i32_473 v445
  v446.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_71 : BitVec 32 := 1#32
  let v40 : BitVec 1 := Scalar.cmpi .eq v2 c1_i32_71
  let v41 : BitVec 32 := Scalar.extui v40
  let c0_i32_90 : BitVec 32 := 0#32
  let v42 : BitVec 1 := Scalar.cmpi .ne v41 c0_i32_90
  v42

def k0_dev12 : Nat :=
  let c0_i32_399 : BitVec 32 := 0#32
  let c2_i32_397 : BitVec 32 := 2#32
  let c1_i32_398 : BitVec 32 := 1#32
  let v351 : BitVec 32 := Scalar.muli c2_i32_397 c1_i32_398
  let v352 : BitVec 32 := Scalar.addi c0_i32_399 v351
  v352.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_91 : BitVec 32 := 3#32
  let v43 : BitVec 1 := Scalar.cmpi .eq v2 c3_i32_91
  let v44 : BitVec 32 := Scalar.extui v43
  let c0_i32_110 : BitVec 32 := 0#32
  let v45 : BitVec 1 := Scalar.cmpi .ne v44 c0_i32_110
  v45

def k0_dev13 : Nat :=
  let c0_i32_399 : BitVec 32 := 0#32
  let c2_i32_397 : BitVec 32 := 2#32
  let c1_i32_398 : BitVec 32 := 1#32
  let v351 : BitVec 32 := Scalar.muli c2_i32_397 c1_i32_398
  let v352 : BitVec 32 := Scalar.addi c0_i32_399 v351
  v352.toNat
def k0_cond10 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_190 : BitVec 32 := 1#32
  let v187 : BitVec 1 := Scalar.cmpi .eq v2 c1_i32_190
  let v188 : BitVec 32 := Scalar.extui v187
  let c0_i32_209 : BitVec 32 := 0#32
  let v189 : BitVec 1 := Scalar.cmpi .ne v188 c0_i32_209
  v189

def k0_dev14 : Nat :=
  let c0_i32_399 : BitVec 32 := 0#32
  let c2_i32_397 : BitVec 32 := 2#32
  let c1_i32_398 : BitVec 32 := 1#32
  let v351 : BitVec 32 := Scalar.muli c2_i32_397 c1_i32_398
  let v352 : BitVec 32 := Scalar.addi c0_i32_399 v351
  v352.toNat
def k0_cond11 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_210 : BitVec 32 := 3#32
  let v190 : BitVec 1 := Scalar.cmpi .eq v2 c3_i32_210
  let v191 : BitVec 32 := Scalar.extui v190
  let c0_i32_229 : BitVec 32 := 0#32
  let v192 : BitVec 1 := Scalar.cmpi .ne v191 c0_i32_229
  v192

def k0_dev15 : Nat :=
  let c0_i32_399 : BitVec 32 := 0#32
  let c2_i32_397 : BitVec 32 := 2#32
  let c1_i32_398 : BitVec 32 := 1#32
  let v351 : BitVec 32 := Scalar.muli c2_i32_397 c1_i32_398
  let v352 : BitVec 32 := Scalar.addi c0_i32_399 v351
  v352.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x256 : Shape := ⟨2, ![512, 256]⟩
abbrev S2x512x4x64 : Shape := ⟨4, ![2, 512, 4, 64]⟩
abbrev S256x512 : Shape := ⟨2, ![256, 512]⟩
abbrev S2x128x256 : Shape := ⟨3, ![2, 128, 256]⟩
abbrev S2x128x4x64 : Shape := ⟨4, ![2, 128, 4, 64]⟩
abbrev S128 : Shape := ⟨1, ![128]⟩
abbrev S_ : Shape := ⟨0, ![]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S2x4x128x512 : Shape := ⟨4, ![2, 4, 128, 512]⟩
abbrev S1x1x128x512 : Shape := ⟨4, ![1, 1, 128, 512]⟩
abbrev S2x4x128 : Shape := ⟨3, ![2, 4, 128]⟩
abbrev S2x4x128x1 : Shape := ⟨4, ![2, 4, 128, 1]⟩
abbrev S1x1x128x1 : Shape := ⟨4, ![1, 1, 128, 1]⟩
abbrev S2x4x64x128 : Shape := ⟨4, ![2, 4, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x512x4x64, .f32⟩
  | .hbm, ⟨3, _⟩ => ⟨S2x512x4x64, .f32⟩
  | .hbm, ⟨4, _⟩ => ⟨S256x512, .f32⟩
  | .hbm, ⟨5, _⟩ => ⟨S2x128x256, .f32⟩
  | .hbm, ⟨6, _⟩ => ⟨S2x128x4x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S128x512, .i32⟩
  | .hbm, ⟨48, _⟩ => ⟨S128x512, .i32⟩
  | .hbm, ⟨49, _⟩ => ⟨S128x512, .i1⟩
  | .hbm, ⟨50, _⟩ => ⟨S2x4x128x512, .f32⟩
  | .hbm, ⟨51, _⟩ => ⟨S_, .f32⟩
  | .hbm, ⟨52, _⟩ => ⟨S2x4x128x512, .f32⟩
  | .hbm, ⟨53, _⟩ => ⟨S2x4x128x512, .f32⟩
  | .hbm, ⟨54, _⟩ => ⟨S1x1x128x512, .i1⟩
  | .hbm, ⟨55, _⟩ => ⟨S_, .f32⟩
  | .hbm, ⟨56, _⟩ => ⟨S_, .f32⟩
  | .hbm, ⟨57, _⟩ => ⟨S2x4x128x512, .i1⟩
  | .hbm, ⟨58, _⟩ => ⟨S2x4x128x512, .f32⟩
  | .hbm, ⟨59, _⟩ => ⟨S2x4x128x512, .f32⟩
  | .hbm, ⟨60, _⟩ => ⟨S_, .f32⟩
  | .hbm, ⟨61, _⟩ => ⟨S2x4x128, .f32⟩
  | .hbm, ⟨62, _⟩ => ⟨S2x4x128x1, .f32⟩
  | .hbm, ⟨63, _⟩ => ⟨S2x4x128x512, .f32⟩
  | .hbm, ⟨64, _⟩ => ⟨S2x4x128x512, .f32⟩
  | .hbm, ⟨65, _⟩ => ⟨S2x4x128x512, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S2x4x128, .f32⟩
  | .hbm, ⟨71, _⟩ => ⟨S2x4x128x1, .f32⟩
  | .hbm, ⟨72, _⟩ => ⟨S_, .f32⟩
  | .hbm, ⟨73, _⟩ => ⟨S_, .f32⟩
  | .hbm, ⟨74, _⟩ => ⟨S2x4x128x1, .i1⟩
  | .hbm, ⟨75, _⟩ => ⟨S2x4x128x1, .f32⟩
  | .hbm, ⟨76, _⟩ => ⟨S2x4x128x1, .f32⟩
  | .hbm, ⟨77, _⟩ => ⟨S2x4x128x512, .f32⟩
  | .hbm, ⟨78, _⟩ => ⟨S2x4x128x512, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S2x4x128x512, .i1⟩
  | .hbm, ⟨83, _⟩ => ⟨S2x4x128x512, .f32⟩
  | .hbm, ⟨84, _⟩ => ⟨S2x4x128x512, .f32⟩
  | .hbm, ⟨85, _⟩ => ⟨S2x4x64x128, .f32⟩
  | .hbm, ⟨86, _⟩ => ⟨S2x128x4x64, .f32⟩
  | .hbm, ⟨87, _⟩ => ⟨S2x128x256, .f32⟩
  | .hbm, ⟨88, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Proto.lean ====
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The protocol's ghost state: the pipeline's rounds and this kernel's, a duty named by the device that pays it. -/
abbrev UU : Type := UR sig nD τ × URounds (GSem nD τ sig) (Dev nD)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) := embR

variable (m : (ℓ : Loc nD τ sig) → Buf (Elt F) ℓ) (ρ : Dev nD → PrngReg)

/-- The launch state: the memory as given, every semaphore at zero. -/
def s₀ : MemSt nD τ sig (Elt F) := ⟨m, fun _ => 0, ρ⟩

/-! ## Windows of the key/value buffer

Window `j` of the buffer is row `j / 2` of operand `j % 2` (0 the keys, 1 the values). -/

theorem win_inb : ∀ j : Fin 4, ∀ i : Fin 4, (![j.val % 2, j.val / 2, 0, 0] : Fin 4 → ℕ) i + S1x1x128x256.size i ≤ S2x2x128x256.size i := by
  decide

/-- The rectangle of window `j`. -/
abbrev kvR (j : Fin 4) : Rect S2x2x128x256 := Rect.unit (s := S2x2x128x256) ![j.val % 2, j.val / 2, 0, 0] S1x1x128x256.size (win_inb j)

/-- Window `j`, as the kernel addresses it. -/
abbrev kvW (j : Fin 4) : Memref sig .tc .vmem S128x256 .bf16 :=
  ((Memref.whole cc0_scratch0).slice (kvR j) (fun _ => rfl)).squeeze S128x256 squeezes_S1x1x128x256_S128x256

theorem kvW_set (j : Fin 4) : (kvW j).view.set = (kvR j).set := by
  refine (View.set_reshape _ _).trans ?_
  exact View.set_slice_whole _ _

theorem kvR_disjoint : ∀ i j : Fin 4, i ≠ j → Disjoint (kvR i).set (kvR j).set := by
  intro i j h
  have hs : i.val % 2 ≠ j.val % 2 ∨ i.val / 2 ≠ j.val / 2 := by
    by_contra hn
    apply h
    apply Fin.ext
    omega
  rcases hs with hs | hs
  · refine Rect.unit_disjoint (0 : Fin 4) ?_
    show i.val % 2 + 1 ≤ j.val % 2 ∨ j.val % 2 + 1 ≤ i.val % 2
    omega
  · refine Rect.unit_disjoint (1 : Fin 4) ?_
    show i.val / 2 + 1 ≤ j.val / 2 ∨ j.val / 2 + 1 ≤ i.val / 2
    omega

/-- The window an element of the buffer lies in. -/
def winOf (i : S2x2x128x256.Idx) : Fin 4 :=
  ⟨2 * (i (1 : Fin 4)).val + (i (0 : Fin 4)).val, by
    have h0 : (i (0 : Fin 4)).val < 2 := (i (0 : Fin 4)).isLt
    have h1 : (i (1 : Fin 4)).val < 2 := (i (1 : Fin 4)).isLt
    omega⟩

/-- Its place in the window. -/
def inWin (i : S2x2x128x256.Idx) : S1x1x128x256.Idx := fun a => match a with
  | ⟨0, _⟩ => ⟨0, Nat.one_pos⟩
  | ⟨1, _⟩ => ⟨0, Nat.one_pos⟩
  | ⟨2, _⟩ => i (2 : Fin 4)
  | ⟨3, _⟩ => i (3 : Fin 4)

theorem winOf_emb (j : Fin 4) (x : S1x1x128x256.Idx) : winOf ((kvR j).emb x) = j := by
  have h0 : (x (0 : Fin 4)).val < 1 := (x (0 : Fin 4)).isLt
  have h1 : (x (1 : Fin 4)).val < 1 := (x (1 : Fin 4)).isLt
  apply Fin.ext
  show 2 * (j.val / 2 + 1 * (x (1 : Fin 4)).val) + (j.val % 2 + 1 * (x (0 : Fin 4)).val) = j.val
  omega

theorem inWin_emb (j : Fin 4) (x : S1x1x128x256.Idx) : inWin ((kvR j).emb x) = x := by
  have h0 : (x (0 : Fin 4)).val < 1 := (x (0 : Fin 4)).isLt
  have h1 : (x (1 : Fin 4)).val < 1 := (x (1 : Fin 4)).isLt
  funext a
  match a with
  | ⟨0, _⟩ => exact Fin.ext (by show 0 = (x (0 : Fin 4)).val; omega)
  | ⟨1, _⟩ => exact Fin.ext (by show 0 = (x (1 : Fin 4)).val; omega)
  | ⟨2, _⟩ => exact Fin.ext (by show 0 + 1 * (x (2 : Fin 4)).val = (x (2 : Fin 4)).val; omega)
  | ⟨3, _⟩ => exact Fin.ext (by show 0 + 1 * (x (3 : Fin 4)).val = (x (3 : Fin 4)).val; omega)

theorem kvR_cover (i : S2x2x128x256.Idx) : (kvR (winOf i)).emb (inWin i) = i := by
  have h0 : (i (0 : Fin 4)).val < 2 := (i (0 : Fin 4)).isLt
  have h1 : (i (1 : Fin 4)).val < 2 := (i (1 : Fin 4)).isLt
  funext a
  match a with
  | ⟨0, _⟩ => exact Fin.ext (by show (2 * (i (1 : Fin 4)).val + (i (0 : Fin 4)).val) % 2 + 1 * 0 = (i (0 : Fin 4)).val; omega)
  | ⟨1, _⟩ => exact Fin.ext (by show (2 * (i (1 : Fin 4)).val + (i (0 : Fin 4)).val) / 2 + 1 * 0 = (i (1 : Fin 4)).val; omega)
  | ⟨2, _⟩ => exact Fin.ext (by show 0 + 1 * (i (2 : Fin 4)).val = (i (2 : Fin 4)).val; omega)
  | ⟨3, _⟩ => exact Fin.ext (by show 0 + 1 * (i (3 : Fin 4)).val = (i (3 : Fin 4)).val; omega)

theorem mem_kvR (i : S2x2x128x256.Idx) : i ∈ (kvR (winOf i)).set := by
  rw [← Rect.map_emb_univ]
  exact Finset.mem_map.mpr ⟨inWin i, Finset.mem_univ _, kvR_cover i⟩

/-! ## What device 0 sends -/

/-- Device 0's block of the keys. -/
def kIn : S2x128x4x64.Idx → F .f32 := m (((0 : Dev nD) : Thread nD τ).loc main_arg2)

/-- Device 0's block of the values. -/
def vIn : S2x128x4x64.Idx → F .f32 := m (((0 : Dev nD) : Thread nD τ).loc main_arg3)

theorem row_inb : ∀ b : Fin 2, ∀ i : Fin 4, (![b.val, 0, 0, 0] : Fin 4 → ℕ) i + S1x128x4x64.size i ≤ S2x128x4x64.size i := by
  decide

/-- Row `b` of a staged array. -/
def rowOf (b : Fin 2) (f : S2x128x4x64.Idx → F .f32) : S1x128x4x64.Idx → F .f32 :=
  fun x => f ((Rect.unit (s := S2x128x4x64) ![b.val, 0, 0, 0] S1x128x4x64.size (row_inb b)).emb x)

/-- What device 0 stores in window `j`. -/
def chunk (j : Fin 4) : FVec F S1x1x128x256 .bf16 := match j with
  | 0 => k0_pay1 (rowOf 0 (kIn m))
  | 1 => k0_pay2 (rowOf 0 (vIn m))
  | 2 => k0_pay4 (k0_pay3 (rowOf 1 (kIn m)))
  | 3 => k0_pay5 (rowOf 1 (vIn m))

/-- The key/value buffer as every device holds it in the end. -/
def kvAll : S2x2x128x256.Idx → F .bf16 := fun i => chunk m (winOf i) (inWin i)

theorem kvAll_emb (j : Fin 4) (x : S1x1x128x256.Idx) : kvAll m ((kvR j).emb x) = chunk m j x := by
  unfold kvAll
  rw [winOf_emb, inWin_emb]

/-- Window `j` of device `c`'s buffer, held at share `q` with contents `f`. -/
abbrev kvP (c : Dev nD) (j : Fin 4) (q : PosShare TreeShare) (f : S2x2x128x256.Idx → F .bf16) : sProp 𝕄 :=
  ((c : Thread nD τ).loc cc0_scratch0) ↦[(kvR j).set]{q} f

/-- Window `j` of device `c`'s buffer, held outright with any contents. -/
abbrev kvAny (c : Dev nD) (j : Fin 4) : sProp 𝕄 := iprop(∃ f : S2x2x128x256.Idx → F .bf16, kvP c j fullShare f)

/-! ## The cells -/

/-- Semaphore `k` of the protocol: the barrier, then the kernel's eighteen transfer semaphores in order. -/
def kSem : Fin 19 → SemLoc sig
  | ⟨0, _⟩ => .reg barrier0
  | ⟨k + 1, h⟩ => .dma (⟨k + 4, by omega⟩ : Fin 22)

/-- Which semaphore of the protocol a semaphore is. -/
def kOf : SemLoc sig → Option (Fin 19)
  | .reg _ => some 0
  | .dma q => if h : 4 ≤ (q : Fin 22).val then some ⟨(q : Fin 22).val - 3, by have := (show (q : Fin 22).val < 22 from (q : Fin 22).isLt); omega⟩ else none

theorem kOf_kSem : ∀ k : Fin 19, kOf (kSem k) = some k := by decide

/-- Device `c`'s cell of semaphore `k`. -/
abbrev kcell (c : Dev nD) (k : Fin 19) : GSem nD τ sig := ((c : Thread nD τ), kSem k)

theorem kcell_inj : Function.Injective (fun p : Dev nD × Fin 19 => kcell p.1 p.2) := by
  rintro ⟨c, k⟩ ⟨c', k'⟩ h
  have h1 : c = c' := congrArg (fun g : GSem nD τ sig => g.1.1) h
  have h2 : some k = some k' := by
    rw [← kOf_kSem k, ← kOf_kSem k']; exact congrArg (fun g : GSem nD τ sig => kOf g.2) h
  rw [h1, Option.some.inj h2]

/-! ## The schedule -/

/-- Who pays cell `k` of device `c`. -/
def dutyK (c : Dev nD) (k : Fin 19) : Finset (Dev nD) :=
  if k = 0 then (if c = 0 then {1, 3} else if c = 2 then ∅ else {2})
  else if k.val ≤ 8 then (if c = 0 then {0} else ∅)
  else if k.val ≤ 12 then (if c = 1 ∧ k.val % 2 = 1 then {1} else if c = 3 ∧ k.val % 2 = 0 then {3} else ∅)
  else if k.val ≤ 16 then (if c = 0 then ∅ else if c = 2 then (if k.val % 2 = 1 then {1} else {3}) else {0})
  else (if c = 0 then {0} else ∅)

/-- With how many units. -/
def amtK (k : Fin 19) : ℕ := if k = 0 then 1 else if k.val ≤ 16 then 2048 else 16384

theorem amtK_pos : ∀ k : Fin 19, 0 < amtK k := by decide

/-- The window send `i` of device 0 reads. -/
def sndW (i : ℕ) : Fin 4 := match i with
  | 0 => 0 | 1 => 1 | 2 => 1 | 3 => 0 | 4 => 2 | 5 => 3 | 6 => 3 | _ => 2

/-- The share of it that is lent. -/
def sndQ (i : ℕ) : PosShare TreeShare := match i with
  | 0 => fullShare.left | 1 => fullShare.left | 2 => fullShare.right.left | 3 => fullShare.right.left
  | 4 => fullShare.left | 5 => fullShare.left | 6 => fullShare.right.left | _ => fullShare.right.left

/-- The barrier's payloads: the windows the signaller will receive in. -/
def barP (c d : Dev nD) : sProp 𝕄 :=
  if c = 0 then iprop(kvAny d 0 ∗ kvAny d 1 ∗ kvAny d 2 ∗ kvAny d 3)
  else if c = 1 then iprop(kvAny d 0 ∗ kvAny d 2)
  else iprop(kvAny d 1 ∗ kvAny d 3)

/-- A staged array with its source. -/
def stP (c : Dev nD) (k : Fin 19) : sProp 𝕄 :=
  if k.val ≤ 17 then
    iprop((((c : Thread nD τ).loc cc0_scratch1) ↦{fullShare} kIn m) ∗ (((0 : Dev nD) : Thread nD τ).loc main_arg2) ↦{fullShare} m _)
  else
    iprop((((c : Thread nD τ).loc cc0_scratch2) ↦{fullShare} vIn m) ∗ (((0 : Dev nD) : Thread nD τ).loc main_arg3) ↦{fullShare} m _)

/-- What cell `k` of device `c` hands over when `d` has paid it. -/
def payK (c : Dev nD) (k : Fin 19) (d : Dev nD) : sProp 𝕄 :=
  if k = 0 then barP c d
  else if k.val ≤ 8 then kvP c (sndW (k.val - 1)) (sndQ (k.val - 1)) (kvAll m)
  else if k.val ≤ 12 then kvP c ⟨(k.val - 9) % 4, Nat.mod_lt _ (by decide)⟩ fullShare.left (kvAll m)
  else if k.val ≤ 16 then kvP c ⟨(k.val - 13) % 4, Nat.mod_lt _ (by decide)⟩ fullShare (kvAll m)
  else stP m c k

instance storable_payK (c : Dev nD) (k : Fin 19) (d : Dev nD) : BI.Storable (upEmb : UEmb _ 𝕄) (payK m c k d) := by
  unfold payK barP stP
  (repeat' split) <;> infer_instance

/-- One round on every cell. -/
def Rd : Rounds.Schedule (GSem nD τ sig) (Dev nD) 𝕄 where
  duties g r := if r = 0 ∧ g.1.2 = .tc then (match kOf g.2 with | some k => dutyK g.1.1 k | none => ∅) else ∅
  amount g _ _ := match kOf g.2 with | some k => amtK k | none => 1
  payload g _ d := match kOf g.2 with | some k => payK m g.1.1 k d | none => iprop(emp)
  amount_pos g r d _ := by
    show 0 < (match kOf g.2 with | some k => amtK k | none => 1)
    split
    · exact amtK_pos _
    · exact Nat.one_pos

instance storable_payload (g : GSem nD τ sig) (r : ℕ) (d : Dev nD) : BI.Storable (upEmb : UEmb _ 𝕄) ((Rd m).payload g r d) := by
  show BI.Storable (upEmb : UEmb _ 𝕄) (match kOf g.2 with | some k => payK m g.1.1 k d | none => iprop(emp))
  split <;> infer_instance

theorem duties_k (c : Dev nD) (k : Fin 19) : (Rd m).duties (kcell c k) 0 = dutyK c k := by
  show (if (0 : ℕ) = 0 ∧ (c : Thread nD τ).2 = .tc then (match kOf (kSem k) with | some k => dutyK c k | none => ∅) else ∅) = _
  rw [if_pos ⟨rfl, rfl⟩, kOf_kSem]

theorem duties_later (g : GSem nD τ sig) : ∀ r, 1 ≤ r → (Rd m).duties g r = ∅ := by
  intro r hr
  show (if r = 0 ∧ g.1.2 = .tc then _ else ∅) = _
  rw [if_neg (fun h => by omega)]

theorem amount_k (c : Dev nD) (k : Fin 19) (d : Dev nD) : (Rd m).amount (kcell c k) 0 d = amtK k := by
  show (match kOf (kSem k) with | some k => amtK k | none => 1) = _
  rw [kOf_kSem]

theorem payload_k (c : Dev nD) (k : Fin 19) (d : Dev nD) : (Rd m).payload (kcell c k) 0 d = payK m c k d := by
  show (match kOf (kSem k) with | some k => payK m c k d | none => iprop(emp)) = _
  rw [kOf_kSem]

theorem expect_k (c : Dev nD) (k : Fin 19) : (Rd m).expect (kcell c k) 0 = (dutyK c k).card * amtK k := by
  unfold Schedule.expect Schedule.amountOf
  rw [duties_k, Finset.sum_congr rfl (fun d _ => amount_k m c k d), Finset.sum_const, smul_eq_mul]

/-! ## Levels and what is owed -/

/-- The level of cell `k` of device `c`. -/
def lvK (c : Dev nD) (k : Fin 19) : ℕ := if k = 0 then 1 else if 13 ≤ k.val ∧ k.val ≤ 16 then (if c = 2 then 3 else 2) else 0

def L (g : GSem nD τ sig) : Finset Unit := if g.1.2 = .tc then {()} else ∅
def lv (g : GSem nD τ sig) (_ : Unit) : ℕ := match kOf g.2 with | some k => lvK g.1.1 k | none => 0

theorem L_tc (c : Dev nD) (sm : SemLoc sig) : L ((c : Thread nD τ), sm) = {()} := if_pos rfl
theorem lv_k (c : Dev nD) (k : Fin 19) (u : Unit) : lv (kcell c k) u = lvK c k := by
  show (match kOf (kSem k) with | some k => lvK c k | none => 0) = _
  rw [kOf_kSem]

/-- The tallies of a list of payments still to make. -/
def owe : List (Dev nD × Fin 19) → CellTallies nD τ sig Unit
  | [] => 0
  | x :: l => owe l + tallyAt (kcell x.1 x.2) () (amtK x.2)

theorem owe_pos : ∀ (l : List (Dev nD × Fin 19)) (g : GSem nD τ sig) (u : Unit), 0 < owe l g u → ∃ x ∈ l, g = kcell x.1 x.2
  | [], g, u, h => absurd h (Nat.lt_irrefl 0)
  | x :: l, g, u, h => by
    by_cases hx : g = kcell x.1 x.2
    · exact ⟨x, List.mem_cons_self, hx⟩
    · unfold owe at h
      rw [Pi.add_apply, Finsupp.add_apply, tallyAt_apply, if_neg (fun h' => hx h'.1), Nat.add_zero] at h
      obtain ⟨y, hy, e⟩ := owe_pos l g u h
      exact ⟨y, List.mem_cons_of_mem _ hy, e⟩

/-- A wait below everything still owed is allowed. -/
theorem mayWait_of (c : Dev nD) (sm : SemLoc sig) (n : ℕ) (hn : lv ((c : Thread nD τ), sm) () = n) (l : List (Dev nD × Fin 19))
    (h : ∀ x ∈ l, n < lvK x.1 x.2) : (levAts L lv : sProp 𝕄) ⊢ MayWait (c : Thread nD τ) sm () (owe l) := by
  refine MayOwe.of_cut (L := L) (lev := lv) n (fun p hp => by rw [Finset.mem_singleton.mp hp, L_tc]; exact Finset.mem_singleton_self _)
    (fun g u hg => ?_) (fun p hp => by rw [Finset.mem_singleton.mp hp]; exact le_of_eq hn) (fun g u hg => ?_)
  · obtain ⟨x, hx, rfl⟩ := owe_pos l g u hg
    rw [L_tc]; exact Finset.mem_singleton_self _
  · obtain ⟨x, hx, rfl⟩ := owe_pos l g u hg
    rw [lv_k]; exact h x hx

/-- What device `c` owes at launch, in the order it pays. -/
def owed (c : Dev nD) : List (Dev nD × Fin 19) :=
  if c = 0 then [(1, 13), (3, 14), (1, 14), (3, 13), (1, 15), (3, 16), (1, 16), (3, 15)]
  else if c = 1 then [(0, 0), (2, 13), (2, 15)]
  else if c = 2 then [(1, 0), (3, 0)]
  else [(0, 0), (2, 14), (2, 16)]

/-! ## The records every device holds -/

/-- Every cell's invariant, and that its round is open. -/
def env (K : Dev nD × Fin 19 → ℕ) : sProp 𝕄 :=
  iprop((bigSep Finset.univ fun p : Dev nD × Fin 19 => cellInv ER (Rd m) (K p) (kcell p.1 p.2))
    ∗ (bigSep Finset.univ fun p : Dev nD × Fin 19 => reached ER (kcell p.1 p.2) 0) ∗ levAts L lv)

instance persistent_env (K : Dev nD × Fin 19 → ℕ) : BI.Persistent (env m K) := by unfold env; infer_instance

theorem env_inv (K : Dev nD × Fin 19 → ℕ) (c : Dev nD) (k : Fin 19) : env m K ⊢ cellInv ER (Rd m) (K (c, k)) (kcell c k) := by
  have h : (bigSep Finset.univ fun p : Dev nD × Fin 19 => cellInv ER (Rd m) (K p) (kcell p.1 p.2) : sProp 𝕄)
      ⊢ cellInv ER (Rd m) (K (c, k)) (kcell c k) := BI.bigSep_elim (Finset.mem_univ (c, k))
  unfold env
  iintro ⟨H, -, -⟩
  iapply h
  iexact H

theorem env_reached (K : Dev nD × Fin 19 → ℕ) (c : Dev nD) (k : Fin 19) : env m K ⊢ reached ER (kcell c k) 0 := by
  have h : (bigSep Finset.univ fun p : Dev nD × Fin 19 => reached ER (kcell p.1 p.2) 0 : sProp 𝕄)
      ⊢ reached ER (kcell c k) 0 := BI.bigSep_elim (Finset.mem_univ (c, k))
  unfold env
  iintro ⟨-, H, -⟩
  iapply h
  iexact H

theorem env_lev (K : Dev nD × Fin 19 → ℕ) : env m K ⊢ (levAts L lv : sProp 𝕄) := by
  unfold env
  iintro ⟨-, -, H⟩
  iexact H

/-- What device `c` owes, whatever waits it has made. -/
def owesE (c : Dev nD) (l : List (Dev nD × Fin 19)) : sProp 𝕄 := iprop(∃ W, owes (c : Thread nD τ) (owe l) W)

end Cert.KernelIdeal.Hand
-- ==== Proof.Steps.lean ====
module

public import proofs.«01_k».proof.Proof.Proto

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a program of device `c`'s core. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A finished program. -/
theorem wpc_ret (c : Dev nD) {α : Type} (a : α) {Q : α → sProp 𝕄} : Q a ⊢ wpc c (.ret a) Q := by
  unfold wpc
  rw [wp_ret]
  exact fupd_intro

/-- A program run after another. -/
theorem wpc_bind (c : Dev nD) {α β : Type} (p : Prog (TpuEff nD τ sig (Elt F) Λ₀ .tc) α) (k : α → Prog (TpuEff nD τ sig (Elt F) Λ₀ .tc) β) {Q : β → sProp 𝕄} :
    wpc c p (fun a => wpc c (k a) Q) ⊢ wpc c (p >>= k) Q := by
  unfold wpc
  rw [wp_bind]

/-! ## Waits -/

/-- The payloads of a cell somebody pays. -/
theorem rest_k (c : Dev nD) (k : Fin 19) :
    bigSep ((Rd m).duties (kcell c k) 0 \ ∅) (fun d => (Rd m).payload (kcell c k) 0 d) = bigSep (dutyK c k) (fun d => payK m c k d) := by
  rw [duties_k, Finset.sdiff_empty]
  exact congrArg (bigSep (dutyK c k)) (funext fun d => payload_k m c k d)

theorem rest_one (c : Dev nD) (k : Fin 19) (d : Dev nD) (hd : dutyK c k = {d}) :
    bigSep ((Rd m).duties (kcell c k) 0 \ ∅) (fun d => (Rd m).payload (kcell c k) 0 d) = payK m c k d := by
  rw [rest_k, hd, bigSep_singleton]

/-- A wait for all of cell `k`. -/
theorem wp_waitAny {α : Type} {Q : α → sProp 𝕄} (K : Dev nD × Fin 19 → ℕ) (c : Dev nD) (k : Fin 19) (l : List (Dev nD × Fin 19)) (n : ℕ)
    {w : TpuEff nD τ sig (Elt F) Λ₀ (c : Thread nD τ).2 PUnit}
    (hw : ∀ R : PUnit → sProp 𝕄, wpE (defs₀ (F := F)) 𝒱₀ (c : Thread nD τ) none Set.univ w R = waitSpec (c : Thread nD τ) Set.univ (kSem k) n R)
    (hn : n = (dutyK c k).card * amtK k) (hl : ∀ x ∈ l, lvK c k < lvK x.1 x.2)
    {kt : PUnit → Prog (TpuEff nD τ sig (Elt F) Λ₀ .tc) α} :
    iprop(env m K ∗ cred (tallyAt (kcell c k) () n) ∗ owesE c l ∗ atPos ER (kcell c k) 0 ∅ 0)
      ⊢ iprop(((owesE c l ∗ atPos ER (kcell c k) 1 ∅ 0 ∗ bigSep (dutyK c k) (fun d => payK m c k d)) -∗ wpc c (kt ⟨⟩) Q)
          -∗ wpc c (.op w kt) Q) := by
  unfold owesE
  iintro ⟨#He, Hc, ⟨%W, HO⟩, Hat⟩ Hk
  iapply (Rounds.wp_wait_rest_token 𝒱₀ ER (Rd m) (c : Thread nD τ) none (κ := K (c, k)) hw (Set.mem_univ _) () (O := owe l) (W := W) (R := 0) (m := 0) (T := ∅)
      (by rw [Nat.zero_add, hn]; exact (expect_k m c k).symm)) $$ [Hc HO Hat]
  · isplitr; · iapply (env_inv m K c k); iexact He
    isplitl [Hc]; · iexact Hc
    isplitl [HO]; · iexact HO
    isplitr
    · iapply (mayWait_of c (kSem k) (lvK c k) (lv_k c k ()) l hl)
      iapply (env_lev m K); iexact He
    iexact Hat
  iintro ⟨HO, Hat, -, Hpay⟩
  iapply Hk
  isplitl [HO]; · iexists _; iexact HO
  isplitl [Hat]; · iexact Hat
  ihave Hp := (Entails.of_eq (rest_k m c k)) $$ Hpay
  iexact Hp

/-- A wait for a transfer on cell `k`, which one device pays. -/
theorem wp_waitK {α : Type} {Q : α → sProp 𝕄} (K : Dev nD × Fin 19 → ℕ) (c : Dev nD) (k : Fin 19) (l : List (Dev nD × Fin 19)) (n : ℕ) (d : Dev nD) (P : sProp 𝕄)
    {sp sp' : Space} {s s' : Shape} {e e' : EltTy} {sm : DmaSem sig} {src : Memref sig .tc sp' s' e'} {κ' : Kind} {dst : Memref sig κ' sp s e}
    {hsrc : src.view.WordExact} {hdst : dst.view.WordExact}
    (hsm : SemLoc.dma sm = kSem k) (hn : dst.view.dmaCredit = n) (hd : dutyK c k = {d}) (ha : n = amtK k) (hP : payK m c k d = P)
    (hl : ∀ x ∈ l, lvK c k < lvK x.1 x.2)
    {kt : PUnit → Prog (TpuEff nD τ sig (Elt F) Λ₀ .tc) α} :
    iprop(env m K ∗ cred (tallyAt (kcell c k) () n) ∗ owesE c l ∗ atPos ER (kcell c k) 0 ∅ 0)
      ⊢ iprop(((owesE c l ∗ atPos ER (kcell c k) 1 ∅ 0 ∗ P) -∗ wpc c (kt ⟨⟩) Q)
          -∗ wpc c (.op (.waitDma2 sm src dst hsrc hdst) kt) Q) := by
  subst hP
  have h := wp_waitAny (Q := Q) m K c k l n (w := (.waitDma2 sm src dst hsrc hdst)) (kt := kt)
    (fun R => by rw [← hsm, ← hn]; rfl) (by rw [hd, Finset.card_singleton, Nat.one_mul, ha]) hl
  rw [hd, bigSep_singleton] at h
  exact h

/-- The wait on the barrier. -/
theorem wp_waitBar {α : Type} {Q : α → sProp 𝕄} (K : Dev nD × Fin 19 → ℕ) (c : Dev nD) (l : List (Dev nD × Fin 19)) (n : ℕ)
    {sm : Sem sig} (hsm : SemLoc.reg sm = kSem 0) (hn : n = (dutyK c 0).card) (hl : ∀ x ∈ l, lvK c 0 < lvK x.1 x.2)
    {kt : PUnit → Prog (TpuEff nD τ sig (Elt F) Λ₀ .tc) α} :
    iprop(env m K ∗ cred (tallyAt (kcell c 0) () n) ∗ owesE c l ∗ atPos ER (kcell c 0) 0 ∅ 0)
      ⊢ iprop(((owesE c l ∗ atPos ER (kcell c 0) 1 ∅ 0 ∗ bigSep (dutyK c 0) (fun d => payK m c 0 d)) -∗ wpc c (kt ⟨⟩) Q)
          -∗ wpc c (.op (.semWait sm n) kt) Q) :=
  wp_waitAny (Q := Q) m K c 0 l n (w := (.semWait sm n)) (kt := kt)
    (fun R => by rw [← hsm]; rfl) (by rw [hn]; exact (Nat.mul_one _).symm) hl

/-! ## Signals -/

/-- A unit signal to the barrier of `n`. -/
theorem wp_sigBar {α : Type} {Q : α → sProp 𝕄} (K : Dev nD × Fin 19 → ℕ) (c n n' : Dev nD) (hn' : n' = n) (l : List (Dev nD × Fin 19)) (P : sProp 𝕄) {a : ℕ} (ha : a = 1)
    {sm : Sem sig} (hsm : SemLoc.reg sm = kSem 0) (hd : c ∈ dutyK n 0) (hP : payK m n 0 c = P)
    {kt : PUnit → Prog (TpuEff nD τ sig (Elt F) Λ₀ .tc) α} :
    iprop(env m K ∗ owesE c ((n, 0) :: l) ∗ dutyTok ER (kcell n 0) 0 c ∗ P)
      ⊢ iprop((owesE c l -∗ wpc c (kt ⟨⟩) Q)
          -∗ wpc c (.op (.semSignal ((n', .tc) : Thread nD τ) sm a) kt) Q) := by
  subst hP hn' ha
  have hsm' : sm = barrier0 := SemLoc.reg.inj hsm
  subst hsm'
  have hpl : payK m n' 0 c ⊢ (Rd m).payload ((n' : Thread nD τ), .reg barrier0) 0 c := Entails.of_eq (payload_k m n' 0 c).symm
  unfold owesE
  iintro ⟨#He, ⟨%W, HO⟩, Ht, HP⟩ Hk
  iapply (Rounds.wp_signal 𝒱₀ ER (Rd m) (c : Thread nD τ) none (dst := (n' : Thread nD τ)) (κ := K (n', 0)) (r := 0) (d := c)
      (by show c ∈ (Rd m).duties (kcell n' 0) 0; rw [duties_k]; exact hd) (amount_k m n' 0 c) () (owe l) (W := W) rfl) $$ [HO Ht HP]
  · isplitr; · iapply (env_inv m K n' 0); iexact He
    isplitl [HO]; · iexact HO
    isplitl [Ht]; · iexact Ht
    isplitl [HP]
    · iapply hpl; iexact HP
    iapply (env_reached m K n' 0); iexact He
  iintro HO
  iapply Hk
  iexists W; iexact HO

/-! ## Transfers -/

/-- What lands in a window is what the sender's window holds. -/
theorem landed (c : Dev nD) (j : Fin 4) (f g : S2x2x128x256.Idx → F .bf16) :
    (((kvW j).view.loc (c : Thread nD τ)) ↦[(kvW j).view.set]{fullShare} ((kvW j).view.write (Elt F) g ((kvW j).view.read (Elt F) f) Finset.univ) : sProp 𝕄)
      ⊢ kvP c j fullShare f := by
  have h : ∀ i ∈ (kvW j).view.set, ((kvW j).view.write (Elt F) g ((kvW j).view.read (Elt F) f) Finset.univ) i = f i := by
    intro i hi
    obtain ⟨x, -, rfl⟩ := Finset.mem_map.mp hi
    exact (View.write_emb_of_mem (v := (kvW j).view) (Val := Elt F) g ((kvW j).view.read (Elt F) f) (Finset.mem_univ x))
  refine (Entails.of_eq (pointsTo_congr h)).trans (Entails.of_eq ?_)
  exact congrArg (fun S => (((c : Thread nD τ).loc cc0_scratch0) ↦[S]{fullShare} f : sProp 𝕄)) (kvW_set j)

/-- The window as a transfer's source. -/
theorem src_eq (c : Dev nD) (j : Fin 4) (q : PosShare TreeShare) (f : S2x2x128x256.Idx → F .bf16) :
    (((kvW j).view.loc (c : Thread nD τ)) ↦[(kvW j).view.set]{q} f : sProp 𝕄) = kvP c j q f :=
  congrArg (fun S => (((c : Thread nD τ).loc cc0_scratch0) ↦[S]{q} f : sProp 𝕄)) (kvW_set j)

/-- A transfer of window `j` to device `n`, paying the sender's cell `k₁` and the receiver's cell `k₂`. -/
theorem wp_sendK {α : Type} {Q : α → sProp 𝕄} (K : Dev nD × Fin 19 → ℕ) (c n n' : Dev nD) (hn' : n' = n) (j : Fin 4) (k₁ k₂ : Fin 19) (q : PosShare TreeShare)
    (l : List (Dev nD × Fin 19)) {s₁ s₂ : SemLoc sig} (h₁ : s₁ = kSem k₁) (h₂ : s₂ = kSem k₂)
    (hd₁ : c ∈ dutyK c k₁) (hd₂ : c ∈ dutyK n k₂) (ha₁ : amtK k₁ = 2048) (ha₂ : amtK k₂ = 2048)
    (hA : (kvW j).view.amount s₂ = 2048)
    (hp₁ : payK m c k₁ c = kvP c j q (kvAll m)) (hp₂ : payK m n k₂ c = kvP n j fullShare (kvAll m))
    {hsc : (kvW j).view.ref.isScScratch = false} {hsrc : (kvW j).view.WordExact} {hdst : (kvW j).view.WordExact}
    {hsem : DmaTarget.Typed (nD := nD) (τ := τ) .vmem s₂ (.remote (Dev.tc n') (kvW j) s₁ hsc)}
    {kt : PUnit → Prog (TpuEff nD τ sig (Elt F) Λ₀ .tc) α} :
    iprop(env m K ∗ kvP c j q (kvAll m) ∗ kvAny n j ∗ owesE c ((n, k₂) :: l) ∗ dutyTok ER (kcell c k₁) 0 c ∗ dutyTok ER (kcell n k₂) 0 c)
      ⊢ iprop(((cred (tallyAt (kcell c k₁) () 2048) ∗ owesE c l) -∗ wpc c (kt ⟨⟩) Q)
          -∗ wpc c (.op (.enqueueDma (kvW j) (.remote (Dev.tc n') (kvW j) s₁ hsc) s₂ hsrc hdst hsem) kt) Q) := by
  subst hn' h₁ h₂
  unfold owesE
  iintro ⟨#He, Hs, ⟨%g, Hd⟩, ⟨%W, HO⟩, Ht₁, Ht₂⟩ Hk
  iapply (Rounds.wp_send_pointsTo 𝒱₀ ER (Rd m) (c : Thread nD τ) none (κ₁ := K (c, k₁)) (κ₂ := K (n', k₂)) (r₁ := 0) (r₂ := 0) (d₁ := c) (d₂ := c)
      (c' := (n' : Thread nD τ)) (src := kvW j) (dst := kvW j) (fs := kvAll m) (fd := g) (q := q)
      (by show c ∈ (Rd m).duties (kcell c k₁) 0; rw [duties_k]; exact hd₁)
      (by show c ∈ (Rd m).duties (kcell n' k₂) 0; rw [duties_k]; exact hd₂) () () 2048 hA
      ((amount_k m c k₁ c).trans ha₁) ((amount_k m n' k₂ c).trans ha₂) (owe l)
      (by show owe l + tallyAt (kcell n' k₂) () (amtK k₂) = _; rw [ha₂]) (W := W)
      (Entails.of_eq ((src_eq c j q (kvAll m)).trans (hp₁.symm.trans (payload_k m c k₁ c).symm)))
      ((landed n' j (kvAll m) g).trans (Entails.of_eq (hp₂.symm.trans (payload_k m n' k₂ c).symm)))) $$ [Hs Hd HO Ht₁ Ht₂]
  · isplitr; · iapply (env_inv m K c k₁); iexact He
    isplitr; · iapply (env_inv m K n' k₂); iexact He
    isplitl [Hs]
    · ihave H := (Entails.of_eq (src_eq c j q (kvAll m)).symm) $$ Hs
      iexact H
    isplitl [Hd]
    · ihave H := (Entails.of_eq (src_eq n' j fullShare g).symm) $$ Hd
      iexact H
    isplitl [HO]; · iexact HO
    isplitl [Ht₁]; · iexact Ht₁
    isplitr; · iapply (env_reached m K c k₁); iexact He
    isplitl [Ht₂]; · iexact Ht₂
    iapply (env_reached m K n' k₂); iexact He
  iintro ⟨Hc, HO⟩
  iapply Hk
  isplitl [Hc]; · iexact Hc
  iexists W; iexact HO

/-- A staging copy of an array of device 0 in a whole scratch buffer, paying cell `k`. -/
theorem wp_stage {α : Type} {Q : α → sProp 𝕄} (K : Dev nD × Fin 19 → ℕ) {s : Shape} {e : EltTy}
    {src : Memref sig ((0 : Dev nD) : Thread nD τ).2.kind .hbm s e} {dst : Memref sig ((0 : Dev nD) : Thread nD τ).2.kind .vmem s e} {sm : SemLoc sig} (k : Fin 19) (hsm : sm = kSem k)
    (f : Buf (Elt F) (src.view.loc ((0 : Dev nD) : Thread nD τ))) (g : Buf (Elt F) (dst.view.loc ((0 : Dev nD) : Thread nD τ)))
    (hd : (0 : Dev nD) ∈ dutyK 0 k) (ha : amtK k = 16384) (hA : dst.view.amount sm = 16384)
    (hpay : iprop((dst.view.loc ((0 : Dev nD) : Thread nD τ) ↦[dst.view.set]{fullShare} (dst.view.write (Elt F) g (src.view.read (Elt F) f) Finset.univ))
              ∗ (src.view.loc ((0 : Dev nD) : Thread nD τ) ↦[src.view.set]{fullShare} f)) ⊢ payK m 0 k 0)
    {hsrc : src.view.WordExact} {hdst : dst.view.WordExact} {hsem : DmaTarget.Typed (nD := nD) (τ := τ) .hbm sm (.here dst)}
    {kt : PUnit → Prog (TpuEff nD τ sig (Elt F) Λ₀ .tc) α} :
    iprop(env m K ∗ (src.view.loc ((0 : Dev nD) : Thread nD τ) ↦[src.view.set]{fullShare} f)
        ∗ (dst.view.loc ((0 : Dev nD) : Thread nD τ) ↦[dst.view.set]{fullShare} g) ∗ dutyTok ER (kcell 0 k) 0 0)
      ⊢ iprop((cred (tallyAt (kcell 0 k) () 16384) -∗ wpc 0 (kt ⟨⟩) Q)
          -∗ wpc 0 (.op (.enqueueDma src (.here dst) sm hsrc hdst hsem) kt) Q) := by
  subst hsm
  iintro ⟨#He, Hs, Hd, Ht⟩ Hk
  iapply (Rounds.wp_copy_pointsTo 𝒱₀ ER (Rd m) ((0 : Dev nD) : Thread nD τ) none (κ := K (0, k)) (r := 0) (d := 0) (src := src) (dst := dst) (fs := f) (fd := g) (q := fullShare)
      (by show 0 ∈ (Rd m).duties (kcell 0 k) 0; rw [duties_k]; exact hd) () 16384 hA ((amount_k m 0 k 0).trans ha)
      (hpay.trans (Entails.of_eq (payload_k m 0 k 0).symm))) $$ [Hs Hd Ht]
  · isplitr; · iapply (env_inv m K 0 k); iexact He
    isplitl [Hs]; · iexact Hs
    isplitl [Hd]; · iexact Hd
    isplitl [Ht]; · iexact Ht
    iapply (env_reached m K 0 k); iexact He
  iexact Hk

end Cert.KernelIdeal.Hand
-- ==== Proof.Reads.lean ====
module

public import proofs.«01_k».proof.Proof.Steps

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Reads -/

theorem head_inb : ∀ j h : Fin 4, ∀ i : Fin 4, (![j.val % 2, j.val / 2, 0, 64 * h.val] : Fin 4 → ℕ) i + S1x1x128x64.size i ≤ S2x2x128x256.size i := by
  decide

/-- Head `h` of window `j`. -/
abbrev kvC (j h : Fin 4) : Rect S2x2x128x256 := Rect.unit (s := S2x2x128x256) ![j.val % 2, j.val / 2, 0, 64 * h.val] S1x1x128x64.size (head_inb j h)

theorem kvC_sub (j h : Fin 4) : (Memref.whole cc0_scratch0).view.setOn (kvC j h).set ⊆ (kvR j).set := by
  intro i hi
  obtain ⟨x, hx, rfl⟩ := Finset.mem_map.mp hi
  rw [Rect.mem_set_unit] at hx
  rw [Rect.mem_set_unit]
  intro a
  have := hx a
  have h3 := h.isLt
  match a with
  | ⟨0, _⟩ => exact this
  | ⟨1, _⟩ => exact this
  | ⟨2, _⟩ => exact this
  | ⟨3, _⟩ => exact ⟨Nat.zero_le _, (x (3 : Fin 4)).isLt⟩

theorem kvR_sub (j : Fin 4) : (Memref.whole cc0_scratch0).view.setOn (kvR j).set ⊆ (kvR j).set := by
  intro i hi
  obtain ⟨x, hx, rfl⟩ := Finset.mem_map.mp hi
  exact hx

/-- What a load of head `h` of window `j` reads once the keys and values are there. -/
def ldK (j h : Fin 4) : Vec F S1x1x128x64 .bf16 := (Memref.whole cc0_scratch0).view.readAt (Elt F) (kvC j h).toLoadRect (kvAll m)

/-! ## The parts that compute -/

theorem part9_spec (c : Dev nD) (q₀ q₁ : PosShare TreeShare) (v49 : FVec F S128x256 .bf16) (v53 : FVec F S128x64 .bf16) (v68 : FVec F S64x64 .bf16) (v78 : FVec F S64x128 .bf16) (v79 : FVec F S64x64 .bf16)
    {Q : _ → sProp 𝕄} :
    iprop(kvP c 0 q₀ (kvAll m) ∗ kvP c 1 q₁ (kvAll m))
      ⊢ iprop(((kvP c 0 q₀ (kvAll m) ∗ kvP c 1 q₁ (kvAll m)) -∗ Q ⟨k0_pay17 v53 v68 v78 v79, k0_pay18 v49 (ldK m 0 1) (ldK m 1 1), k0_pay19 (ldK m 0 2)⟩) -∗ wpc c (k0_part9 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v49 v53 v68 v78 v79) Q) := by
  rw [k0_part9_eq_skeleton]
  unfold k0_part9_skel ldK
  simp only [Prog.lift, Prog.bind_op, Prog.bind_ret, Prog.pure_eq_ret]
  iintro ⟨H0, H1⟩ Hk
  iapply (wp_load 𝒱₀ (c : Thread nD τ) none Set.univ (m := Memref.whole cc0_scratch0) (kvC_sub 0 1)) $$ H0; iintro H0
  iapply (wp_load 𝒱₀ (c : Thread nD τ) none Set.univ (m := Memref.whole cc0_scratch0) (kvC_sub 1 1)) $$ H1; iintro H1
  iapply (wp_load 𝒱₀ (c : Thread nD τ) none Set.univ (m := Memref.whole cc0_scratch0) (kvC_sub 0 2)) $$ H0; iintro H0
  rw [wp_ret]
  imodintro
  iapply Hk
  isplitl [H0] <;> iassumption

theorem part10_spec (c : Dev nD) (q₀ q₁ : PosShare TreeShare) (v49 : FVec F S128x256 .bf16) (v117 : FVec F S128x64 .bf16)
    {Q : _ → sProp 𝕄} :
    iprop(kvP c 0 q₀ (kvAll m) ∗ kvP c 1 q₁ (kvAll m))
      ⊢ iprop(((kvP c 0 q₀ (kvAll m) ∗ kvP c 1 q₁ (kvAll m)) -∗ Q ⟨k0_pay20 v49 v117 (ldK m 1 2), k0_pay21 (ldK m 0 3), k0_pay22 (ldK m 1 3), k0_pay23 v49, k0_pay24 v49 (ldK m 0 3)⟩) -∗ wpc c (k0_part10 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v49 v117) Q) := by
  rw [k0_part10_eq_skeleton]
  unfold k0_part10_skel ldK
  simp only [Prog.lift, Prog.bind_op, Prog.bind_ret, Prog.pure_eq_ret]
  iintro ⟨H0, H1⟩ Hk
  iapply (wp_load 𝒱₀ (c : Thread nD τ) none Set.univ (m := Memref.whole cc0_scratch0) (kvC_sub 1 2)) $$ H1; iintro H1
  iapply (wp_load 𝒱₀ (c : Thread nD τ) none Set.univ (m := Memref.whole cc0_scratch0) (kvC_sub 0 3)) $$ H0; iintro H0
  iapply (wp_load 𝒱₀ (c : Thread nD τ) none Set.univ (m := Memref.whole cc0_scratch0) (kvC_sub 1 3)) $$ H1; iintro H1
  rw [wp_ret]
  imodintro
  iapply Hk
  isplitl [H0] <;> iassumption

theorem part13_spec (c : Dev nD) (q₀ q₁ : PosShare TreeShare) (v196 : FVec F S128x256 .bf16) (v198 : FVec F S128x64 .bf16) (v199 : Vec F S1x1x128x64 .bf16)
    {Q : _ → sProp 𝕄} :
    iprop(kvP c 2 q₀ (kvAll m) ∗ kvP c 3 q₁ (kvAll m))
      ⊢ iprop(((kvP c 2 q₀ (kvAll m) ∗ kvP c 3 q₁ (kvAll m)) -∗ Q ⟨k0_pay28 v196 v198 v199, k0_pay30 (ldK m 3 1), k0_pay31 v196 (ldK m 2 1), k0_pay32 v196 (ldK m 2 1), k0_pay33 v196 (ldK m 2 1)⟩) -∗ wpc c (k0_part13 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v196 v198 v199) Q) := by
  rw [k0_part13_eq_skeleton]
  unfold k0_part13_skel ldK
  simp only [Prog.lift, Prog.bind_op, Prog.bind_ret, Prog.pure_eq_ret]
  iintro ⟨H0, H1⟩ Hk
  iapply (wp_load 𝒱₀ (c : Thread nD τ) none Set.univ (m := Memref.whole cc0_scratch0) (kvC_sub 2 1)) $$ H0; iintro H0
  iapply (wp_load 𝒱₀ (c : Thread nD τ) none Set.univ (m := Memref.whole cc0_scratch0) (kvC_sub 3 1)) $$ H1; iintro H1
  rw [wp_ret]
  imodintro
  iapply Hk
  isplitl [H0] <;> iassumption

theorem part14_spec (c : Dev nD) (q₀ q₁ : PosShare TreeShare) (v196 : FVec F S128x256 .bf16) (v233 : FVec F S128x64 .bf16) (v237 : FVec F S64x64 .f32) (v238 : FVec F S64x128 .f32) (v240 : FVec F S64x1 .f32)
    {Q : _ → sProp 𝕄} :
    iprop(kvP c 2 q₀ (kvAll m) ∗ kvP c 3 q₁ (kvAll m))
      ⊢ iprop(((kvP c 2 q₀ (kvAll m) ∗ kvP c 3 q₁ (kvAll m)) -∗ Q ⟨k0_pay34 v233 v237 v238 v240, k0_pay36 (ldK m 3 2), k0_pay37 v196 (ldK m 2 2), k0_pay38 v196 (ldK m 2 2), k0_pay39 v196 (ldK m 2 2)⟩) -∗ wpc c (k0_part14 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v196 v233 v237 v238 v240) Q) := by
  rw [k0_part14_eq_skeleton]
  unfold k0_part14_skel ldK
  simp only [Prog.lift, Prog.bind_op, Prog.bind_ret, Prog.pure_eq_ret]
  iintro ⟨H0, H1⟩ Hk
  iapply (wp_load 𝒱₀ (c : Thread nD τ) none Set.univ (m := Memref.whole cc0_scratch0) (kvC_sub 2 2)) $$ H0; iintro H0
  iapply (wp_load 𝒱₀ (c : Thread nD τ) none Set.univ (m := Memref.whole cc0_scratch0) (kvC_sub 3 2)) $$ H1; iintro H1
  rw [wp_ret]
  imodintro
  iapply Hk
  isplitl [H0] <;> iassumption

theorem part15_spec (c : Dev nD) (q₀ q₁ : PosShare TreeShare) (v196 : FVec F S128x256 .bf16) (v266 : FVec F S128x64 .bf16) (v271 : FVec F S64x128 .f32) (v281 : FVec F S64x64 .bf16) (v282 : FVec F S64 .f32)
    {Q : _ → sProp 𝕄} :
    iprop(kvP c 2 q₀ (kvAll m) ∗ kvP c 3 q₁ (kvAll m))
      ⊢ iprop(((kvP c 2 q₀ (kvAll m) ∗ kvP c 3 q₁ (kvAll m)) -∗ Q ⟨k0_pay40 v266 v271 v281 v282, k0_pay42 (ldK m 3 3), k0_pay43 v196 (ldK m 2 3), k0_pay44 v196 (ldK m 2 3), k0_pay45 (ldK m 3 3)⟩) -∗ wpc c (k0_part15 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v196 v266 v271 v281 v282) Q) := by
  rw [k0_part15_eq_skeleton]
  unfold k0_part15_skel ldK
  simp only [Prog.lift, Prog.bind_op, Prog.bind_ret, Prog.pure_eq_ret]
  iintro ⟨H0, H1⟩ Hk
  iapply (wp_load 𝒱₀ (c : Thread nD τ) none Set.univ (m := Memref.whole cc0_scratch0) (kvC_sub 2 3)) $$ H0; iintro H0
  iapply (wp_load 𝒱₀ (c : Thread nD τ) none Set.univ (m := Memref.whole cc0_scratch0) (kvC_sub 3 3)) $$ H1; iintro H1
  rw [wp_ret]
  imodintro
  iapply Hk
  isplitl [H0] <;> iassumption

/-! ## The stores of the result -/

theorem oR_inb : ∀ b : Fin 2, ∀ i : Fin 3, (![b.val, 0, 0] : Fin 3 → ℕ) i + S1x128x512.size i ≤ S2x128x512.size i := by
  decide

/-- Row `b` of the activations, and of the result. -/
abbrev oR (b : Fin 2) : Rect S2x128x512 := Rect.unit (s := S2x128x512) ![b.val, 0, 0] S1x128x512.size (oR_inb b)

/-- The staged result. -/
abbrev outP (c : Dev nD) (f : S2x128x512.Idx → F .f32) : sProp 𝕄 := ((c : Thread nD τ).loc cc0_stg3_0) ↦{fullShare} f

/-- The result after a store of row `b`. -/
def outW (b : Fin 2) (w : FVec F S1x128x512 .f32) (g : S2x128x512.Idx → F .f32) : S2x128x512.Idx → F .f32 :=
  ((Memref.whole cc0_stg3_0).access (oR b)).write (Elt F) g w Finset.univ

theorem part11_spec (c : Dev nD) (v2 : BitVec 32) (v39 : FVec F S256x512 .f32) (v82 v115 v148 : FVec F S128x64 .f32) (v150 v152 : FVec F S128x64 .bf16) (v154 : FVec F S64x64 .bf16) (v156 : FVec F S64x64 .f32)
    (g : S2x128x512.Idx → F .f32) {Q : _ → sProp 𝕄} :
    outP c g
      ⊢ iprop((outP c (outW 0 (k0_pay25 v39 v82 v115 v148 v150 v152 v154 v156) g) -∗ Q (Scalar.extui (Scalar.cmpi .eq v2 1#32)))
          -∗ wpc c (k0_part11 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v39 v82 v115 v148 v150 v152 v154 v156) Q) := by
  rw [k0_part11_eq_skeleton]
  unfold k0_part11_skel
  simp only [Prog.lift, Prog.bind_op, Prog.bind_ret, Prog.pure_eq_ret]
  iintro H Hk
  iapply (wp_load 𝒱₀ (c : Thread nD τ) none Set.univ (m := Memref.whole cc0_stg3_0) (Finset.subset_univ _)) $$ H; iintro H
  iapply (wp_store 𝒱₀ (c : Thread nD τ) none Set.univ (m := Memref.whole cc0_stg3_0) (r := oR 0) (Mk := Finset.univ) (Finset.subset_univ _)) $$ H; iintro H
  rw [wp_ret]
  imodintro
  iapply Hk
  iexact H

theorem part16_spec (c : Dev nD) (v2 : BitVec 32) (v39 : FVec F S256x512 .f32) (v229 v262 v295 : FVec F S128x64 .f32) (v299 : FVec F S128x64 .bf16) (v314 : FVec F S64x64 .bf16) (v324 : FVec F S64x128 .bf16) (v325 : FVec F S64x64 .bf16)
    (g : S2x128x512.Idx → F .f32) {Q : _ → sProp 𝕄} :
    outP c g
      ⊢ iprop((outP c (outW 1 (k0_pay46 v39 v229 v262 v295 v299 v314 v324 v325) g) -∗ Q (Scalar.extui (Scalar.cmpi .eq v2 0#32)))
          -∗ wpc c (k0_part16 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v39 v229 v262 v295 v299 v314 v324 v325) Q) := by
  rw [k0_part16_eq_skeleton]
  unfold k0_part16_skel
  simp only [Prog.lift, Prog.bind_op, Prog.bind_ret, Prog.pure_eq_ret]
  iintro H Hk
  iapply (wp_load 𝒱₀ (c : Thread nD τ) none Set.univ (m := Memref.whole cc0_stg3_0) (Finset.subset_univ _)) $$ H; iintro H
  iapply (wp_store 𝒱₀ (c : Thread nD τ) none Set.univ (m := Memref.whole cc0_stg3_0) (r := oR 1) (Mk := Finset.univ) (Finset.subset_univ _)) $$ H; iintro H
  rw [wp_ret]
  imodintro
  iapply Hk
  iexact H

end Cert.KernelIdeal.Hand
-- ==== Proof.Dev0.lean ====
module

public import proofs.«01_k».proof.Proof.Reads

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Device 0: staging, the barrier, the broadcast -/

/-- The staged keys of device `c`, and the staged values. -/
abbrev s1P (c : Dev nD) (f : S2x128x4x64.Idx → F .f32) : sProp 𝕄 := ((c : Thread nD τ).loc cc0_scratch1) ↦{fullShare} f
abbrev s2P (c : Dev nD) (f : S2x128x4x64.Idx → F .f32) : sProp 𝕄 := ((c : Thread nD τ).loc cc0_scratch2) ↦{fullShare} f
/-- Its blocks of the keys and of the values in memory. -/
abbrev kMem (c : Dev nD) : sProp 𝕄 := ((c : Thread nD τ).loc main_arg2) ↦{fullShare} m _
abbrev vMem (c : Dev nD) : sProp 𝕄 := ((c : Thread nD τ).loc main_arg3) ↦{fullShare} m _
/-- The staged activations and weights. -/
abbrev xP (c : Dev nD) (f : S2x128x512.Idx → F .f32) : sProp 𝕄 := ((c : Thread nD τ).loc cc0_stg0_0) ↦{fullShare} f
abbrev wqP (c : Dev nD) (f : S512x256.Idx → F .f32) : sProp 𝕄 := ((c : Thread nD τ).loc cc0_stg1_0) ↦{fullShare} f
abbrev woP (c : Dev nD) (f : S256x512.Idx → F .f32) : sProp 𝕄 := ((c : Thread nD τ).loc cc0_stg2_0) ↦{fullShare} f

/-- The place of a device along the axis, as the kernel computes it. -/
abbrev place (c : Dev nD) : BitVec 32 := Scalar.remsi (Scalar.divsi (Dev.word c) 1#32) 4#32

/-- The payer's right to pay cell `k` of device `n`. -/
abbrev tok (c n : Dev nD) (k : Fin 19) : sProp 𝕄 := dutyTok ER (kcell n k) 0 c
/-- Cell `k` of device `c` not yet waited for, and waited for. -/
abbrev at0 (c : Dev nD) (k : Fin 19) : sProp 𝕄 := atPos ER (kcell c k) 0 ∅ 0
abbrev at1 (c : Dev nD) (k : Fin 19) : sProp 𝕄 := atPos ER (kcell c k) 1 ∅ 0
/-- What is known to be due on cell `k` of device `c`. -/
abbrev due (c : Dev nD) (k : Fin 19) (n : ℕ) : sProp 𝕄 := cred (tallyAt (kcell c k) () n)

theorem stage_pay₁ (g : S2x128x4x64.Idx → F .f32) :
    iprop(((Memref.whole cc0_scratch1).view.loc ((0 : Dev nD) : Thread nD τ) ↦[(Memref.whole cc0_scratch1).view.set]{fullShare} ((Memref.whole cc0_scratch1).view.write (Elt F) g ((Memref.whole main_arg2).view.read (Elt F) (kIn m)) Finset.univ))
        ∗ ((Memref.whole main_arg2).view.loc ((0 : Dev nD) : Thread nD τ) ↦[(Memref.whole main_arg2).view.set]{fullShare} kIn m)) ⊢ payK m 0 17 0 := by
  have h : ((Memref.whole cc0_scratch1).view.write (Elt F) g ((Memref.whole main_arg2).view.read (Elt F) (kIn m)) Finset.univ) = kIn m := by
    funext i
    exact View.write_emb_of_mem (v := (Memref.whole cc0_scratch1).view) (Val := Elt F) g _ (Finset.mem_univ i)
  rw [h, View.set_whole, View.set_whole]
  exact .rfl

theorem stage_pay₂ (g : S2x128x4x64.Idx → F .f32) :
    iprop(((Memref.whole cc0_scratch2).view.loc ((0 : Dev nD) : Thread nD τ) ↦[(Memref.whole cc0_scratch2).view.set]{fullShare} ((Memref.whole cc0_scratch2).view.write (Elt F) g ((Memref.whole main_arg3).view.read (Elt F) (vIn m)) Finset.univ))
        ∗ ((Memref.whole main_arg3).view.loc ((0 : Dev nD) : Thread nD τ) ↦[(Memref.whole main_arg3).view.set]{fullShare} vIn m)) ⊢ payK m 0 18 0 := by
  have h : ((Memref.whole cc0_scratch2).view.write (Elt F) g ((Memref.whole main_arg3).view.read (Elt F) (vIn m)) Finset.univ) = vIn m := by
    funext i
    exact View.write_emb_of_mem (v := (Memref.whole cc0_scratch2).view) (Val := Elt F) g _ (Finset.mem_univ i)
  rw [h, View.set_whole, View.set_whole]
  exact .rfl

/-- The first part on device 0: its copies into the staging buffers, then the wait for the receivers. -/
theorem part5_dev0 (K : Dev nD × Fin 19 → ℕ) (g₁ g₂ : S2x128x4x64.Idx → F .f32) {Q : _ → sProp 𝕄} :
    iprop(env m K ∗ owesE 0 (owed 0) ∗ s1P 0 g₁ ∗ s2P 0 g₂ ∗ kMem m 0 ∗ vMem m 0 ∗ tok 0 0 17 ∗ tok 0 0 18 ∗ due 0 0 2 ∗ at0 0 0)
      ⊢ iprop(((owesE 0 (owed 0) ∗ due 0 17 16384 ∗ due 0 18 16384 ∗ at1 0 0 ∗ barP 0 1 ∗ barP 0 3)
            -∗ Q ⟨0, place 0, Scalar.extui (Scalar.cmpi .eq (place 0) 0#32)⟩)
          -∗ wpc 0 (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part5_eq_skeleton]
  unfold k0_part5_skel
  simp only [semSignalWord, semWaitWord, Prog.lift, Prog.bind_op, Prog.bind_ret, Prog.pure_eq_ret, wp_deviceId]
  rw [dif_pos (by decide), dif_neg (by decide), dif_neg (by decide), dif_pos (by decide), dif_neg (by decide)]
  iintro ⟨#He, HO, Hs1, Hs2, Hk, Hv, Ht1, Ht2, Hd, Ha⟩ Hq
  iapply (wp_stage m K (src := Memref.whole main_arg2) (dst := Memref.whole cc0_scratch1) 17 rfl (kIn m) g₁ (by decide) rfl rfl (stage_pay₁ m g₁)) $$ [Hk Hs1 Ht1]
  · isplitr; · iexact He
    rw [View.set_whole, View.set_whole]
    isplitl [Hk]; · iexact Hk
    isplitl [Hs1]; · iexact Hs1
    iexact Ht1
  iintro Hc1
  iapply (wp_stage m K (src := Memref.whole main_arg3) (dst := Memref.whole cc0_scratch2) 18 rfl (vIn m) g₂ (by decide) rfl rfl (stage_pay₂ m g₂)) $$ [Hv Hs2 Ht2]
  · isplitr; · iexact He
    rw [View.set_whole, View.set_whole]
    isplitl [Hv]; · iexact Hv
    isplitl [Hs2]; · iexact Hs2
    iexact Ht2
  iintro Hc2
  iapply (wp_waitBar m K 0 (owed 0) 2 rfl rfl (by decide)) $$ [HO Hd Ha]
  · isplitr; · iexact He
    isplitl [Hd]; · iexact Hd
    isplitl [HO] <;> iassumption
  iintro ⟨HO, Ha, Hp⟩
  have hb : bigSep (dutyK 0 0) (fun d => payK m 0 0 d) = iprop(barP 0 1 ∗ barP 0 3 : sProp 𝕄) :=
    bigSep_eq_bigSepL_of_eq (S := dutyK 0 0) [1, 3] (by decide) (by decide) _
  ihave Hp' := (Entails.of_eq hb) $$ Hp
  iapply (wpc_ret (F := F))
  iapply Hq
  isplitl [HO]; · iexact HO
  isplitl [Hc1]; · iexact Hc1
  isplitl [Hc2]; · iexact Hc2
  isplitl [Ha]; · iexact Ha
  iexact Hp'
theorem dev4_eq {h : k0_dev4 < nD} : (⟨k0_dev4, h⟩ : Dev nD) = 1 := Fin.ext rfl
theorem dev5_eq {h : k0_dev5 < nD} : (⟨k0_dev5, h⟩ : Dev nD) = 3 := Fin.ext rfl
theorem dev6_eq {h : k0_dev6 < nD} : (⟨k0_dev6, h⟩ : Dev nD) = 1 := Fin.ext rfl
theorem dev7_eq {h : k0_dev7 < nD} : (⟨k0_dev7, h⟩ : Dev nD) = 3 := Fin.ext rfl
theorem dev8_eq {h : k0_dev8 < nD} : (⟨k0_dev8, h⟩ : Dev nD) = 1 := Fin.ext rfl
theorem dev9_eq {h : k0_dev9 < nD} : (⟨k0_dev9, h⟩ : Dev nD) = 3 := Fin.ext rfl
theorem dev10_eq {h : k0_dev10 < nD} : (⟨k0_dev10, h⟩ : Dev nD) = 1 := Fin.ext rfl
theorem dev11_eq {h : k0_dev11 < nD} : (⟨k0_dev11, h⟩ : Dev nD) = 3 := Fin.ext rfl

/-- A store of device 0's chunk `j` in its window. -/
theorem wp_stK {α : Type} {Q : α → sProp 𝕄} (c : Dev nD) (j : Fin 4) (g : S2x2x128x256.Idx → F .bf16)
    {hx : ((Memref.whole cc0_scratch0).access (kvR j)).Stores Finset.univ} {hm : (Finset.univ : Finset (kvR j).shape.Idx) = Finset.univ ∨ ∀ a, (kvR j).stride a = 1}
    {kt : PUnit → Prog (TpuEff nD τ sig (Elt F) Λ₀ .tc) α} :
    kvP c j fullShare g ⊢ iprop((kvP c j fullShare (kvAll m) -∗ wpc c (kt ⟨⟩) Q)
      -∗ wpc c (.op (.store (Memref.whole cc0_scratch0) (kvR j) (chunk m j) Finset.univ hx hm) kt) Q) := by
  have hset : ((Memref.whole cc0_scratch0).access (kvR j)).setOn Finset.univ ⊆ (kvR j).set := by
    intro i hi
    obtain ⟨x, -, rfl⟩ := Finset.mem_map.mp hi
    rw [← Rect.map_emb_univ]
    exact Finset.mem_map.mpr ⟨x, Finset.mem_univ _, rfl⟩
  have h : ∀ i ∈ (kvR j).set, (((Memref.whole cc0_scratch0).access (kvR j)).write (Elt F) g (chunk m j) Finset.univ) i = kvAll m i := by
    intro i hi
    rw [← Rect.map_emb_univ] at hi
    obtain ⟨x, -, rfl⟩ := Finset.mem_map.mp hi
    exact (View.write_emb_of_mem (v := (Memref.whole cc0_scratch0).access (kvR j)) (Val := Elt F) g (chunk m j) (Finset.mem_univ x)).trans (kvAll_emb m j x).symm
  have e : (kvP c j fullShare (((Memref.whole cc0_scratch0).access (kvR j)).write (Elt F) g (chunk m j) Finset.univ) : sProp 𝕄) = kvP c j fullShare (kvAll m) := pointsTo_congr h
  rw [← e]
  exact wp_store 𝒱₀ (c : Thread nD τ) none Set.univ (m := Memref.whole cc0_scratch0) (r := kvR j) (Mk := Finset.univ) hset

/-- A window's share in two halves, and back. -/
theorem kv_halves (c : Dev nD) (j : Fin 4) (q : PosShare TreeShare) (f : S2x2x128x256.Idx → F .bf16) :
    (kvP c j q f : sProp 𝕄) ⊢ iprop(kvP c j q.left f ∗ kvP c j q.right f) := (pointsTo_share (PosShare.mem_left_op_right q)).mp
theorem kv_whole (c : Dev nD) (j : Fin 4) (q : PosShare TreeShare) (f : S2x2x128x256.Idx → F .bf16) :
    iprop(kvP c j q.left f ∗ kvP c j q.right f) ⊢ (kvP c j q f : sProp 𝕄) := (pointsTo_share (PosShare.mem_left_op_right q)).mpr

/-- Device 0: the staged rows of batch 0 arrive, go into the buffer, and the keys set out. -/
theorem part1_dev0 (K : Dev nD × Fin 19 → ℕ) (h : k0_cond6 (0 : Dev nD) = 1#1) {Q : _ → sProp 𝕄} :
    iprop(env m K ∗ owesE 0 [(1, 13), (3, 14), (1, 14), (3, 13), (1, 15), (3, 16), (1, 16), (3, 15)] ∗ due 0 17 16384 ∗ due 0 18 16384 ∗ at0 0 17 ∗ at0 0 18 ∗ kvAny 0 0 ∗ kvAny 0 1 ∗ kvAny 1 0 ∗ tok 0 0 1 ∗ tok 0 1 13)
      ⊢ iprop(((owesE 0 [(3, 14), (1, 14), (3, 13), (1, 15), (3, 16), (1, 16), (3, 15)] ∗ at1 0 17 ∗ at1 0 18 ∗ s1P 0 (kIn m) ∗ s2P 0 (vIn m) ∗ kMem m 0 ∗ vMem m 0 ∗ kvP 0 0 fullShare.right (kvAll m) ∗ kvP 0 1 fullShare (kvAll m) ∗ due 0 1 2048)
            -∗ Q ⟨Scalar.muli 3#32 1#32, 0#32⟩)
          -∗ wpc 0 (k0_part1 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 0 h) Q) := by
  rw [k0_part1_eq_skeleton]
  unfold k0_part1_skel
  simp only [semSignalWord, semWaitWord, Prog.lift, Prog.bind_op, Prog.bind_ret, Prog.pure_eq_ret]
  iintro ⟨#He, HO, Hd1, Hd2, Ha1, Ha2, H0, H1, Hn, Ht1, Ht2⟩ Hq
  iapply (wp_waitK m K 0 17 [(1, 13), (3, 14), (1, 14), (3, 13), (1, 15), (3, 16), (1, 16), (3, 15)] 16384 0 (iprop(s1P 0 (kIn m) ∗ kMem m 0)) rfl rfl (by decide) rfl rfl (by decide)) $$ [Hd1 HO Ha1]
  · isplitr; · iexact He
    isplitl [Hd1]; · iexact Hd1
    isplitl [HO] <;> iassumption
  iintro ⟨HO, Ha1, ⟨Hs1, Hk⟩⟩
  iapply (wp_waitK m K 0 18 [(1, 13), (3, 14), (1, 14), (3, 13), (1, 15), (3, 16), (1, 16), (3, 15)] 16384 0 (iprop(s2P 0 (vIn m) ∗ vMem m 0)) rfl rfl (by decide) rfl rfl (by decide)) $$ [Hd2 HO Ha2]
  · isplitr; · iexact He
    isplitl [Hd2]; · iexact Hd2
    isplitl [HO] <;> iassumption
  iintro ⟨HO, Ha2, ⟨Hs2, Hv⟩⟩
  icases H0 with ⟨%g0, H0⟩
  icases H1 with ⟨%g1, H1⟩
  iapply (wp_load 𝒱₀ ((0 : Dev nD) : Thread nD τ) none Set.univ (m := Memref.whole cc0_scratch1) (Finset.subset_univ _)) $$ Hs1; iintro Hs1
  iapply (wp_load 𝒱₀ ((0 : Dev nD) : Thread nD τ) none Set.univ (m := Memref.whole cc0_scratch0) (kvR_sub 0)) $$ H0; iintro H0
  iapply (wp_stK m 0 0 _) $$ H0; iintro H0
  iapply (wp_load 𝒱₀ ((0 : Dev nD) : Thread nD τ) none Set.univ (m := Memref.whole cc0_scratch2) (Finset.subset_univ _)) $$ Hs2; iintro Hs2
  iapply (wp_load 𝒱₀ ((0 : Dev nD) : Thread nD τ) none Set.univ (m := Memref.whole cc0_scratch0) (kvR_sub 1)) $$ H1; iintro H1
  iapply (wp_stK m 0 1 _) $$ H1; iintro H1
  ihave Hsp := (kv_halves 0 0 fullShare (kvAll m)) $$ H0
  icases Hsp with ⟨H0l, H0r⟩
  iapply (wp_sendK m K 0 1 _ dev4_eq 0 1 13 fullShare.left [(3, 14), (1, 14), (3, 13), (1, 15), (3, 16), (1, 16), (3, 15)] rfl rfl (by decide) (by decide) rfl rfl rfl rfl rfl) $$ [H0l Hn HO Ht1 Ht2]
  · isplitr; · iexact He
    isplitl [H0l]; · iexact H0l
    isplitl [Hn]; · iexact Hn
    isplitl [HO]; · iexact HO
    isplitl [Ht1] <;> iassumption
  iintro ⟨Hc, HO⟩
  iapply (wpc_ret (F := F))
  iapply Hq
  isplitl [HO]; · iexact HO
  isplitl [Ha1]; · iexact Ha1
  isplitl [Ha2]; · iexact Ha2
  isplitl [Hs1]; · iexact Hs1
  isplitl [Hs2]; · iexact Hs2
  isplitl [Hk]; · iexact Hk
  isplitl [Hv]; · iexact Hv
  isplitl [H0r]; · iexact H0r
  isplitl [H1]; · iexact H1
  iexact Hc

/-- Device 0: the rest of batch 0 sets out. -/
theorem part2_dev0 (K : Dev nD × Fin 19 → ℕ) (h : k0_cond6 (0 : Dev nD) = 1#1) (v c₀ : BitVec 32) {Q : _ → sProp 𝕄} :
    iprop(env m K ∗ owesE 0 [(3, 14), (1, 14), (3, 13), (1, 15), (3, 16), (1, 16), (3, 15)] ∗ kvP 0 0 fullShare.right (kvAll m) ∗ kvP 0 1 fullShare (kvAll m) ∗ s1P 0 (kIn m) ∗ kvAny 3 1 ∗ kvAny 1 1 ∗ kvAny 3 0 ∗ tok 0 0 2 ∗ tok 0 3 14 ∗ tok 0 0 3 ∗ tok 0 1 14 ∗ tok 0 0 4 ∗ tok 0 3 13)
      ⊢ iprop(((owesE 0 [(1, 15), (3, 16), (1, 16), (3, 15)] ∗ kvP 0 0 fullShare.right.right (kvAll m) ∗ kvP 0 1 fullShare.right.right (kvAll m) ∗ s1P 0 (kIn m) ∗ due 0 2 2048 ∗ due 0 3 2048 ∗ due 0 4 2048)
            -∗ Q (k0_pay3 (rowOf 1 (kIn m))))
          -∗ wpc 0 (k0_part2 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 0 h v c₀) Q) := by
  rw [k0_part2_eq_skeleton]
  unfold k0_part2_skel
  have hr : rowOf 1 (kIn m) = View.readAt (Elt F) (Memref.whole cc0_scratch1).view (Rect.unit (s := S2x128x4x64) ![1, 0, 0, 0] S1x128x4x64.size inb_S2x128x4x64_S1x128x4x64_1_0_0_0).toLoadRect (kIn m) := rfl
  rw [hr]
  simp only [semSignalWord, semWaitWord, Prog.lift, Prog.bind_op, Prog.bind_ret, Prog.pure_eq_ret]
  iintro ⟨#He, HO, H0, H1, Hs1, Hn1, Hn2, Hn3, Ht1, Ht2, Ht3, Ht4, Ht5, Ht6⟩ Hq
  ihave Hsp := (kv_halves 0 1 fullShare (kvAll m)) $$ H1
  icases Hsp with ⟨H1l, H1r⟩
  iapply (wp_sendK m K 0 3 _ dev5_eq 1 2 14 fullShare.left [(1, 14), (3, 13), (1, 15), (3, 16), (1, 16), (3, 15)] rfl rfl (by decide) (by decide) rfl rfl rfl rfl rfl) $$ [H1l Hn1 HO Ht1 Ht2]
  · isplitr; · iexact He
    isplitl [H1l]; · iexact H1l
    isplitl [Hn1]; · iexact Hn1
    isplitl [HO]; · iexact HO
    isplitl [Ht1] <;> iassumption
  iintro ⟨Hc1, HO⟩
  ihave Hsp := (kv_halves 0 1 fullShare.right (kvAll m)) $$ H1r
  icases Hsp with ⟨H1l, H1r⟩
  iapply (wp_sendK m K 0 1 _ dev6_eq 1 3 14 fullShare.right.left [(3, 13), (1, 15), (3, 16), (1, 16), (3, 15)] rfl rfl (by decide) (by decide) rfl rfl rfl rfl rfl) $$ [H1l Hn2 HO Ht3 Ht4]
  · isplitr; · iexact He
    isplitl [H1l]; · iexact H1l
    isplitl [Hn2]; · iexact Hn2
    isplitl [HO]; · iexact HO
    isplitl [Ht3] <;> iassumption
  iintro ⟨Hc2, HO⟩
  ihave Hsp := (kv_halves 0 0 fullShare.right (kvAll m)) $$ H0
  icases Hsp with ⟨H0l, H0r⟩
  iapply (wp_sendK m K 0 3 _ dev7_eq 0 4 13 fullShare.right.left [(1, 15), (3, 16), (1, 16), (3, 15)] rfl rfl (by decide) (by decide) rfl rfl rfl rfl rfl) $$ [H0l Hn3 HO Ht5 Ht6]
  · isplitr; · iexact He
    isplitl [H0l]; · iexact H0l
    isplitl [Hn3]; · iexact Hn3
    isplitl [HO]; · iexact HO
    isplitl [Ht5] <;> iassumption
  iintro ⟨Hc3, HO⟩
  iapply (wp_load 𝒱₀ ((0 : Dev nD) : Thread nD τ) none Set.univ (m := Memref.whole cc0_scratch1) (Finset.subset_univ _)) $$ Hs1; iintro Hs1
  iapply (wpc_ret (F := F))
  iapply Hq
  isplitl [HO]; · iexact HO
  isplitl [H0r]; · iexact H0r
  isplitl [H1r]; · iexact H1r
  isplitl [Hs1]; · iexact Hs1
  isplitl [Hc1]; · iexact Hc1
  isplitl [Hc2]; · iexact Hc2
  iexact Hc3

/-- Device 0: batch 1 goes into the buffer and sets out. -/
theorem part3_dev0 (K : Dev nD × Fin 19 → ℕ) (h : k0_cond6 (0 : Dev nD) = 1#1) {Q : _ → sProp 𝕄} :
    iprop(env m K ∗ owesE 0 [(1, 15), (3, 16), (1, 16), (3, 15)] ∗ kvAny 0 2 ∗ kvAny 0 3 ∗ s2P 0 (vIn m) ∗ kvAny 1 2 ∗ kvAny 3 3 ∗ tok 0 0 5 ∗ tok 0 1 15 ∗ tok 0 0 6 ∗ tok 0 3 16)
      ⊢ iprop(((owesE 0 [(1, 16), (3, 15)] ∗ kvP 0 2 fullShare.right (kvAll m) ∗ kvP 0 3 fullShare.right (kvAll m) ∗ s2P 0 (vIn m) ∗ due 0 5 2048 ∗ due 0 6 2048)
            -∗ Q ⟨1#32, 1#32⟩)
          -∗ wpc 0 (k0_part3 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 0 h (k0_pay3 (rowOf 1 (kIn m)))) Q) := by
  rw [k0_part3_eq_skeleton]
  unfold k0_part3_skel
  simp only [semSignalWord, semWaitWord, Prog.lift, Prog.bind_op, Prog.bind_ret, Prog.pure_eq_ret]
  iintro ⟨#He, HO, H2, H3, Hs2, Hn1, Hn2, Ht1, Ht2, Ht3, Ht4⟩ Hq
  icases H2 with ⟨%g2, H2⟩
  icases H3 with ⟨%g3, H3⟩
  iapply (wp_load 𝒱₀ ((0 : Dev nD) : Thread nD τ) none Set.univ (m := Memref.whole cc0_scratch0) (kvR_sub 2)) $$ H2; iintro H2
  iapply (wp_stK m 0 2 _) $$ H2; iintro H2
  iapply (wp_load 𝒱₀ ((0 : Dev nD) : Thread nD τ) none Set.univ (m := Memref.whole cc0_scratch2) (Finset.subset_univ _)) $$ Hs2; iintro Hs2
  iapply (wp_load 𝒱₀ ((0 : Dev nD) : Thread nD τ) none Set.univ (m := Memref.whole cc0_scratch0) (kvR_sub 3)) $$ H3; iintro H3
  iapply (wp_stK m 0 3 _) $$ H3; iintro H3
  ihave Hsp := (kv_halves 0 2 fullShare (kvAll m)) $$ H2
  icases Hsp with ⟨H2l, H2r⟩
  iapply (wp_sendK m K 0 1 _ dev8_eq 2 5 15 fullShare.left [(3, 16), (1, 16), (3, 15)] rfl rfl (by decide) (by decide) rfl rfl rfl rfl rfl) $$ [H2l Hn1 HO Ht1 Ht2]
  · isplitr; · iexact He
    isplitl [H2l]; · iexact H2l
    isplitl [Hn1]; · iexact Hn1
    isplitl [HO]; · iexact HO
    isplitl [Ht1] <;> iassumption
  iintro ⟨Hc1, HO⟩
  ihave Hsp := (kv_halves 0 3 fullShare (kvAll m)) $$ H3
  icases Hsp with ⟨H3l, H3r⟩
  iapply (wp_sendK m K 0 3 _ dev9_eq 3 6 16 fullShare.left [(1, 16), (3, 15)] rfl rfl (by decide) (by decide) rfl rfl rfl rfl rfl) $$ [H3l Hn2 HO Ht3 Ht4]
  · isplitr; · iexact He
    isplitl [H3l]; · iexact H3l
    isplitl [Hn2]; · iexact Hn2
    isplitl [HO]; · iexact HO
    isplitl [Ht3] <;> iassumption
  iintro ⟨Hc2, HO⟩
  iapply (wpc_ret (F := F))
  iapply Hq
  isplitl [HO]; · iexact HO
  isplitl [H2r]; · iexact H2r
  isplitl [H3r]; · iexact H3r
  isplitl [Hs2]; · iexact Hs2
  isplitl [Hc1]; · iexact Hc1
  iexact Hc2

/-- What the loads of the activations and weights read. -/
def ldX (b : Fin 2) (f : S2x128x512.Idx → F .f32) : Vec F S1x128x512 .f32 := (Memref.whole cc0_stg0_0).view.readAt (Elt F) (oR b).toLoadRect f
def ldWq (f : S512x256.Idx → F .f32) : Vec F S512x256 .f32 :=
  (Memref.whole cc0_stg1_0).view.readAt (Elt F) (Rect.unit (s := S512x256) ![0, 0] S512x256.size inb_S512x256_S512x256_0_0).toLoadRect f
def ldWo (f : S256x512.Idx → F .f32) : Vec F S256x512 .f32 :=
  (Memref.whole cc0_stg2_0).view.readAt (Elt F) (Rect.unit (s := S256x512) ![0, 0] S256x512.size inb_S256x512_S256x512_0_0).toLoadRect f
theorem ldX_eq0 (f : S2x128x512.Idx → F .f32) :
    ldX 0 f = (Memref.whole cc0_stg0_0).view.readAt (Elt F) (Rect.unit (s := S2x128x512) ![0, 0, 0] ![1, 128, 512] inb_S2x128x512_S1x128x512_0_0_0).toLoadRect f := rfl
theorem ldX_eq1 (f : S2x128x512.Idx → F .f32) :
    ldX 1 f = (Memref.whole cc0_stg0_0).view.readAt (Elt F) (Rect.unit (s := S2x128x512) ![1, 0, 0] ![1, 128, 512] inb_S2x128x512_S1x128x512_1_0_0).toLoadRect f := rfl
theorem ldWq_eq (f : S512x256.Idx → F .f32) :
    ldWq f = (Memref.whole cc0_stg1_0).view.readAt (Elt F) (Rect.unit (s := S512x256) ![0, 0] ![512, 256] inb_S512x256_S512x256_0_0).toLoadRect f := rfl
theorem ldWo_eq (f : S256x512.Idx → F .f32) :
    ldWo f = (Memref.whole cc0_stg2_0).view.readAt (Elt F) (Rect.unit (s := S256x512) ![0, 0] ![256, 512] inb_S256x512_S256x512_0_0).toLoadRect f := rfl

/-- Device 0: the whole broadcast, then the activations and the query weights. -/
theorem part6_dev0 (K : Dev nD × Fin 19 → ℕ) (v24 : BitVec 32) (fx : S2x128x512.Idx → F .f32) (fq : S512x256.Idx → F .f32) {Q : _ → sProp 𝕄} :
    iprop(env m K ∗ owesE 0 [(1, 13), (3, 14), (1, 14), (3, 13), (1, 15), (3, 16), (1, 16), (3, 15)] ∗ due 0 17 16384 ∗ due 0 18 16384 ∗ at0 0 17 ∗ at0 0 18 ∗ kvAny 0 0 ∗ kvAny 0 1 ∗ kvAny 0 2 ∗ kvAny 0 3 ∗ kvAny 1 0 ∗ kvAny 1 1 ∗ kvAny 1 2 ∗ kvAny 1 3 ∗ kvAny 3 0 ∗ kvAny 3 1 ∗ kvAny 3 2 ∗ kvAny 3 3 ∗ tok 0 0 1 ∗ tok 0 1 13 ∗ tok 0 0 2 ∗ tok 0 3 14 ∗ tok 0 0 3 ∗ tok 0 1 14 ∗ tok 0 0 4 ∗ tok 0 3 13 ∗ tok 0 0 5 ∗ tok 0 1 15 ∗ tok 0 0 6 ∗ tok 0 3 16 ∗ tok 0 0 7 ∗ tok 0 1 16 ∗ tok 0 0 8 ∗ tok 0 3 15 ∗ xP 0 fx ∗ wqP 0 fq)
      ⊢ iprop(((owesE 0 [] ∗ at1 0 17 ∗ at1 0 18 ∗ s1P 0 (kIn m) ∗ s2P 0 (vIn m) ∗ kMem m 0 ∗ vMem m 0 ∗ kvP 0 0 fullShare.right.right (kvAll m) ∗ kvP 0 1 fullShare.right.right (kvAll m) ∗ kvP 0 2 fullShare.right.right (kvAll m) ∗ kvP 0 3 fullShare.right.right (kvAll m) ∗ due 0 1 2048 ∗ due 0 2 2048 ∗ due 0 3 2048 ∗ due 0 4 2048 ∗ due 0 5 2048 ∗ due 0 6 2048 ∗ due 0 7 2048 ∗ due 0 8 2048 ∗ xP 0 fx ∗ wqP 0 fq)
            -∗ Q ⟨k0_pay6 (ldWq fq), k0_pay7 (ldWq fq) (ldX 0 fx), k0_pay8 (ldX 1 fx)⟩)
          -∗ wpc 0 (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 0 v24) Q) := by
  rw [k0_part6_eq_skeleton]
  unfold k0_part6_skel
  rw [dif_pos (by decide)]
  simp only [semSignalWord, semWaitWord, Prog.lift, Prog.bind_op, Prog.bind_ret, Prog.pure_eq_ret]
  iintro ⟨#He, HO, Hd1, Hd2, Ha1, Ha2, H0, H1, H2, H3, Hn10, Hn11, Hn12, Hn13, Hn30, Hn31, Hn32, Hn33, Ht0, Hu0, Ht1, Hu1, Ht2, Hu2, Ht3, Hu3, Ht4, Hu4, Ht5, Hu5, Ht6, Hu6, Ht7, Hu7, Hx, Hq1⟩ Hq
  iapply (wpc_bind (F := F))
  iapply (part1_dev0 m K _) $$ [HO Hd1 Hd2 Ha1 Ha2 H0 H1 Hn10 Ht0 Hu0]
  · isplitr; · iexact He
    isplitl [HO]; · iexact HO
    isplitl [Hd1]; · iexact Hd1
    isplitl [Hd2]; · iexact Hd2
    isplitl [Ha1]; · iexact Ha1
    isplitl [Ha2]; · iexact Ha2
    isplitl [H0]; · iexact H0
    isplitl [H1]; · iexact H1
    isplitl [Hn10]; · iexact Hn10
    isplitl [Ht0]; · iexact Ht0
    iexact Hu0
  iintro ⟨HO, Ha1, Ha2, Hs1, Hs2, Hk, Hv, H0, H1, Hc0⟩
  beta_reduce
  iapply (wpc_bind (F := F))
  iapply (part2_dev0 m K _ _ _) $$ [HO H0 H1 Hs1 Hn31 Hn11 Hn30 Ht1 Hu1 Ht2 Hu2 Ht3 Hu3]
  · isplitr; · iexact He
    isplitl [HO]; · iexact HO
    isplitl [H0]; · iexact H0
    isplitl [H1]; · iexact H1
    isplitl [Hs1]; · iexact Hs1
    isplitl [Hn31]; · iexact Hn31
    isplitl [Hn11]; · iexact Hn11
    isplitl [Hn30]; · iexact Hn30
    isplitl [Ht1]; · iexact Ht1
    isplitl [Hu1]; · iexact Hu1
    isplitl [Ht2]; · iexact Ht2
    isplitl [Hu2]; · iexact Hu2
    isplitl [Ht3]; · iexact Ht3
    iexact Hu3
  iintro ⟨HO, H0, H1, Hs1, Hc1, Hc2, Hc3⟩
  beta_reduce
  iapply (wpc_bind (F := F))
  iapply (part3_dev0 m K _) $$ [HO H2 H3 Hs2 Hn12 Hn33 Ht4 Hu4 Ht5 Hu5]
  · isplitr; · iexact He
    isplitl [HO]; · iexact HO
    isplitl [H2]; · iexact H2
    isplitl [H3]; · iexact H3
    isplitl [Hs2]; · iexact Hs2
    isplitl [Hn12]; · iexact Hn12
    isplitl [Hn33]; · iexact Hn33
    isplitl [Ht4]; · iexact Ht4
    isplitl [Hu4]; · iexact Hu4
    isplitl [Ht5]; · iexact Ht5
    iexact Hu5
  iintro ⟨HO, H2, H3, Hs2, Hc4, Hc5⟩
  beta_reduce
  ihave Hsp := (kv_halves 0 3 fullShare.right (kvAll m)) $$ H3
  icases Hsp with ⟨H3l, H3r⟩
  iapply (wp_sendK m K 0 1 _ dev10_eq 3 7 16 fullShare.right.left [(3, 15)] rfl rfl (by decide) (by decide) rfl rfl rfl rfl rfl) $$ [H3l Hn13 HO Ht6 Hu6]
  · isplitr; · iexact He
    isplitl [H3l]; · iexact H3l
    isplitl [Hn13]; · iexact Hn13
    isplitl [HO]; · iexact HO
    isplitl [Ht6] <;> iassumption
  iintro ⟨Hc6, HO⟩
  ihave Hsp := (kv_halves 0 2 fullShare.right (kvAll m)) $$ H2
  icases Hsp with ⟨H2l, H2r⟩
  iapply (wp_sendK m K 0 3 _ dev11_eq 2 8 15 fullShare.right.left [] rfl rfl (by decide) (by decide) rfl rfl rfl rfl rfl) $$ [H2l Hn32 HO Ht7 Hu7]
  · isplitr; · iexact He
    isplitl [H2l]; · iexact H2l
    isplitl [Hn32]; · iexact Hn32
    isplitl [HO]; · iexact HO
    isplitl [Ht7] <;> iassumption
  iintro ⟨Hc7, HO⟩
  iapply (wp_load 𝒱₀ ((0 : Dev nD) : Thread nD τ) none Set.univ (m := Memref.whole cc0_stg1_0) (Finset.subset_univ _)) $$ Hq1; iintro Hq1
  iapply (wp_load 𝒱₀ ((0 : Dev nD) : Thread nD τ) none Set.univ (m := Memref.whole cc0_stg0_0) (Finset.subset_univ _)) $$ Hx; iintro Hx
  iapply (wp_load 𝒱₀ ((0 : Dev nD) : Thread nD τ) none Set.univ (m := Memref.whole cc0_stg0_0) (Finset.subset_univ _)) $$ Hx; iintro Hx
  rw [ldX_eq0, ldX_eq1, ldWq_eq]
  iapply (wpc_ret (F := F))
  iapply Hq
  isplitl [HO]; · iexact HO
  isplitl [Ha1]; · iexact Ha1
  isplitl [Ha2]; · iexact Ha2
  isplitl [Hs1]; · iexact Hs1
  isplitl [Hs2]; · iexact Hs2
  isplitl [Hk]; · iexact Hk
  isplitl [Hv]; · iexact Hv
  isplitl [H0]; · iexact H0
  isplitl [H1]; · iexact H1
  isplitl [H2r]; · iexact H2r
  isplitl [H3r]; · iexact H3r
  isplitl [Hc0]; · iexact Hc0
  isplitl [Hc1]; · iexact Hc1
  isplitl [Hc2]; · iexact Hc2
  isplitl [Hc3]; · iexact Hc3
  isplitl [Hc4]; · iexact Hc4
  isplitl [Hc5]; · iexact Hc5
  isplitl [Hc6]; · iexact Hc6
  isplitl [Hc7]; · iexact Hc7
  isplitl [Hx]; · iexact Hx
  iexact Hq1

end Cert.KernelIdeal.Hand
-- ==== Proof.Parts.lean ====
module

public import proofs.«01_k».proof.Proof.Dev0

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Devices 1, 2 and 3, and the parts every device runs -/

theorem dev12_eq {h : k0_dev12 < nD} : (⟨k0_dev12, h⟩ : Dev nD) = 2 := Fin.ext rfl
theorem dev13_eq {h : k0_dev13 < nD} : (⟨k0_dev13, h⟩ : Dev nD) = 2 := Fin.ext rfl
theorem dev14_eq {h : k0_dev14 < nD} : (⟨k0_dev14, h⟩ : Dev nD) = 2 := Fin.ext rfl
theorem dev15_eq {h : k0_dev15 < nD} : (⟨k0_dev15, h⟩ : Dev nD) = 2 := Fin.ext rfl
theorem dev1_eq {h : k0_dev1 < nD} : (⟨k0_dev1, h⟩ : Dev nD) = 0 := Fin.ext rfl
theorem dev2_eq {h : k0_dev2 < nD} : (⟨k0_dev2, h⟩ : Dev nD) = 1 := Fin.ext rfl
theorem dev3_eq {h : k0_dev3 < nD} : (⟨k0_dev3, h⟩ : Dev nD) = 3 := Fin.ext rfl
theorem payK_bar (c d : Dev nD) : payK m c 0 d = barP c d := if_pos rfl

/-- Device 1: it announces its windows to device 0 and waits for those of device 2. -/
theorem part5_dev1 (K : Dev nD × Fin 19 → ℕ)  {Q : _ → sProp 𝕄} :
    iprop(env m K ∗ owesE 1 [(0, 0), (2, 13), (2, 15)] ∗ barP 0 1 ∗ tok 1 0 0 ∗ due 1 0 1 ∗ at0 1 0)
      ⊢ iprop(((owesE 1 [(2, 13), (2, 15)] ∗ at1 1 0 ∗ barP 1 2)
            -∗ Q ⟨1, place 1, Scalar.extui (Scalar.cmpi .eq (place 1) 0#32)⟩)
          -∗ wpc 1 (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part5_eq_skeleton]
  unfold k0_part5_skel
  simp only [semSignalWord, semWaitWord, Prog.lift, Prog.bind_op, Prog.bind_ret, Prog.pure_eq_ret, wp_deviceId]
  rw [dif_neg (by decide), dif_pos (by decide), dif_neg (by decide), dif_neg (by decide), dif_pos (by decide)]
  iintro ⟨#He, HO, Hw, Ht, Hd, Ha⟩ Hq
  iapply (wp_sigBar m K 1 0 _ dev1_eq [(2, 13), (2, 15)] (barP 0 1) rfl rfl (by decide) (payK_bar m 0 1)) $$ [HO Ht Hw]
  · isplitr; · iexact He
    isplitl [HO]; · iexact HO
    isplitl [Ht] <;> iassumption
  iintro HO
  iapply (wp_waitBar m K 1 [(2, 13), (2, 15)] 1 rfl rfl (by decide)) $$ [HO Hd Ha]
  · isplitr; · iexact He
    isplitl [Hd]; · iexact Hd
    isplitl [HO] <;> iassumption
  iintro ⟨HO, Ha, Hp⟩
  have hb : bigSep (dutyK 1 0) (fun d => payK m 1 0 d) = (barP 1 2 : sProp 𝕄) := by
    rw [show dutyK 1 0 = {2} by decide, bigSep_singleton]; exact payK_bar m 1 2
  ihave Hp' := (Entails.of_eq hb) $$ Hp
  iapply (wpc_ret (F := F))
  iapply Hq
  isplitl [HO]; · iexact HO
  isplitl [Ha]; · iexact Ha
  iexact Hp'

/-- Device 3: it announces its windows to device 0 and waits for those of device 2. -/
theorem part5_dev3 (K : Dev nD × Fin 19 → ℕ)  {Q : _ → sProp 𝕄} :
    iprop(env m K ∗ owesE 3 [(0, 0), (2, 14), (2, 16)] ∗ barP 0 3 ∗ tok 3 0 0 ∗ due 3 0 1 ∗ at0 3 0)
      ⊢ iprop(((owesE 3 [(2, 14), (2, 16)] ∗ at1 3 0 ∗ barP 3 2)
            -∗ Q ⟨3, place 3, Scalar.extui (Scalar.cmpi .eq (place 3) 0#32)⟩)
          -∗ wpc 3 (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part5_eq_skeleton]
  unfold k0_part5_skel
  simp only [semSignalWord, semWaitWord, Prog.lift, Prog.bind_op, Prog.bind_ret, Prog.pure_eq_ret, wp_deviceId]
  rw [dif_neg (by decide), dif_pos (by decide), dif_neg (by decide), dif_neg (by decide), dif_pos (by decide)]
  iintro ⟨#He, HO, Hw, Ht, Hd, Ha⟩ Hq
  iapply (wp_sigBar m K 3 0 _ dev1_eq [(2, 14), (2, 16)] (barP 0 3) rfl rfl (by decide) (payK_bar m 0 3)) $$ [HO Ht Hw]
  · isplitr; · iexact He
    isplitl [HO]; · iexact HO
    isplitl [Ht] <;> iassumption
  iintro HO
  iapply (wp_waitBar m K 3 [(2, 14), (2, 16)] 1 rfl rfl (by decide)) $$ [HO Hd Ha]
  · isplitr; · iexact He
    isplitl [Hd]; · iexact Hd
    isplitl [HO] <;> iassumption
  iintro ⟨HO, Ha, Hp⟩
  have hb : bigSep (dutyK 3 0) (fun d => payK m 3 0 d) = (barP 3 2 : sProp 𝕄) := by
    rw [show dutyK 3 0 = {2} by decide, bigSep_singleton]; exact payK_bar m 3 2
  ihave Hp' := (Entails.of_eq hb) $$ Hp
  iapply (wpc_ret (F := F))
  iapply Hq
  isplitl [HO]; · iexact HO
  isplitl [Ha]; · iexact Ha
  iexact Hp'

/-- Device 2: it announces two windows to each of its neighbours. -/
theorem part5_dev2 (K : Dev nD × Fin 19 → ℕ)  {Q : _ → sProp 𝕄} :
    iprop(env m K ∗ owesE 2 [(1, 0), (3, 0)] ∗ barP 1 2 ∗ barP 3 2 ∗ tok 2 1 0 ∗ tok 2 3 0)
      ⊢ iprop(((owesE 2 [])
            -∗ Q ⟨2, place 2, Scalar.extui (Scalar.cmpi .eq (place 2) 0#32)⟩)
          -∗ wpc 2 (k0_part5 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part5_eq_skeleton]
  unfold k0_part5_skel
  simp only [semSignalWord, semWaitWord, Prog.lift, Prog.bind_op, Prog.bind_ret, Prog.pure_eq_ret, wp_deviceId]
  rw [dif_neg (by decide), dif_neg (by decide), dif_pos (by decide), dif_neg (by decide), dif_neg (by decide)]
  iintro ⟨#He, HO, Hw, Hw', Ht, Ht'⟩ Hq
  iapply (wp_sigBar m K 2 1 _ dev2_eq [(3, 0)] (barP 1 2) rfl rfl (by decide) (payK_bar m 1 2)) $$ [HO Ht Hw]
  · isplitr; · iexact He
    isplitl [HO]; · iexact HO
    isplitl [Ht] <;> iassumption
  iintro HO
  iapply (wp_sigBar m K 2 3 _ dev3_eq [] (barP 3 2) rfl rfl (by decide) (payK_bar m 3 2)) $$ [HO Ht' Hw']
  · isplitr; · iexact He
    isplitl [HO]; · iexact HO
    isplitl [Ht'] <;> iassumption
  iintro HO
  iapply (wpc_ret (F := F))
  iapply Hq
  iexact HO

/-- The activations and the query weights, on a device that sends nothing. -/
theorem part6_other (K : Dev nD × Fin 19 → ℕ) (c : Dev nD) (h : ¬ k0_cond6 c = 1#1) (v24 : BitVec 32) (fx : S2x128x512.Idx → F .f32) (fq : S512x256.Idx → F .f32) {Q : _ → sProp 𝕄} :
    iprop(env m K ∗ xP c fx ∗ wqP c fq)
      ⊢ iprop(((xP c fx ∗ wqP c fq)
            -∗ Q ⟨k0_pay6 (ldWq fq), k0_pay7 (ldWq fq) (ldX 0 fx), k0_pay8 (ldX 1 fx)⟩)
          -∗ wpc c (k0_part6 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v24) Q) := by
  rw [k0_part6_eq_skeleton]
  unfold k0_part6_skel
  simp only [dif_neg h]
  simp only [semSignalWord, semWaitWord, Prog.lift, Prog.bind_op, Prog.bind_ret, Prog.pure_eq_ret]
  iintro ⟨#He, Hx, Hq1⟩ Hq
  iapply (wp_load 𝒱₀ ((c : Dev nD) : Thread nD τ) none Set.univ (m := Memref.whole cc0_stg1_0) (Finset.subset_univ _)) $$ Hq1; iintro Hq1
  iapply (wp_load 𝒱₀ ((c : Dev nD) : Thread nD τ) none Set.univ (m := Memref.whole cc0_stg0_0) (Finset.subset_univ _)) $$ Hx; iintro Hx
  iapply (wp_load 𝒱₀ ((c : Dev nD) : Thread nD τ) none Set.univ (m := Memref.whole cc0_stg0_0) (Finset.subset_univ _)) $$ Hx; iintro Hx
  rw [ldX_eq0, ldX_eq1, ldWq_eq]
  iapply (wpc_ret (F := F))
  iapply Hq
  isplitl [Hx]; · iexact Hx
  iexact Hq1

/-- The output weights, on a device that forwards nothing. -/
theorem part7_other (K : Dev nD × Fin 19 → ℕ) (c : Dev nD) (h : ¬ k0_cond7 c = 1#1) (h' : ¬ k0_cond8 c = 1#1) (v2 : BitVec 32) (v27 : FVec F S512x256 .f32) (v34 : FVec F S128x512 .f32) (fo : S256x512.Idx → F .f32) {Q : _ → sProp 𝕄} :
    iprop(env m K ∗ woP c fo)
      ⊢ iprop(((woP c fo)
            -∗ Q ⟨k0_pay9 v27 v34, k0_pay10 (ldWo fo), Scalar.extui (Scalar.cmpi .eq v2 2#32)⟩)
          -∗ wpc c (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v27 v34) Q) := by
  rw [k0_part7_eq_skeleton]
  unfold k0_part7_skel
  simp only [dif_neg h, dif_neg h']
  simp only [semSignalWord, semWaitWord, Prog.lift, Prog.bind_op, Prog.bind_ret, Prog.pure_eq_ret]
  iintro ⟨#He, Ho⟩ Hq
  iapply (wp_load 𝒱₀ ((c : Dev nD) : Thread nD τ) none Set.univ (m := Memref.whole cc0_stg2_0) (Finset.subset_univ _)) $$ Ho; iintro Ho
  rw [ldWo_eq]
  iapply (wpc_ret (F := F))
  iapply Hq
  iexact Ho

/-- Device 1: batch 0 arrives, and one of its windows goes on to device 2. -/
theorem part7_dev1 (K : Dev nD × Fin 19 → ℕ) (v2 : BitVec 32) (v27 : FVec F S512x256 .f32) (v34 : FVec F S128x512 .f32) (fo : S256x512.Idx → F .f32) {Q : _ → sProp 𝕄} :
    iprop(env m K ∗ owesE 1 [(2, 13), (2, 15)] ∗ woP 1 fo ∗ due 1 13 2048 ∗ at0 1 13 ∗ due 1 14 2048 ∗ at0 1 14 ∗ kvAny 2 0 ∗ tok 1 1 9 ∗ tok 1 2 13)
      ⊢ iprop(((owesE 1 [(2, 15)] ∗ woP 1 fo ∗ at1 1 13 ∗ at1 1 14 ∗ kvP 1 0 fullShare.right (kvAll m) ∗ kvP 1 1 fullShare (kvAll m) ∗ due 1 9 2048)
            -∗ Q ⟨k0_pay9 v27 v34, k0_pay10 (ldWo fo), Scalar.extui (Scalar.cmpi .eq v2 2#32)⟩)
          -∗ wpc 1 (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 1 v2 v27 v34) Q) := by
  rw [k0_part7_eq_skeleton]
  unfold k0_part7_skel
  simp only [dif_pos (show k0_cond7 1 = 1#1 by decide), dif_neg (show ¬ k0_cond8 1 = 1#1 by decide)]
  simp only [semSignalWord, semWaitWord, Prog.lift, Prog.bind_op, Prog.bind_ret, Prog.pure_eq_ret]
  iintro ⟨#He, HO, Ho, Hd1, Ha1, Hd2, Ha2, Hn, Ht1, Ht2⟩ Hq
  iapply (wp_load 𝒱₀ ((1 : Dev nD) : Thread nD τ) none Set.univ (m := Memref.whole cc0_stg2_0) (Finset.subset_univ _)) $$ Ho; iintro Ho
  iapply (wp_waitK m K 1 13 [(2, 13), (2, 15)] 2048 0 (kvP 1 0 fullShare (kvAll m)) rfl rfl (by decide) rfl rfl (by decide)) $$ [Hd1 HO Ha1]
  · isplitr; · iexact He
    isplitl [Hd1]; · iexact Hd1
    isplitl [HO] <;> iassumption
  iintro ⟨HO, Ha1, Hw1⟩
  ihave Hsp := (kv_halves 1 0 fullShare (kvAll m)) $$ Hw1
  icases Hsp with ⟨Hl, Hr⟩
  iapply (wp_sendK m K 1 2 _ dev12_eq 0 9 13 fullShare.left [(2, 15)] rfl rfl (by decide) (by decide) rfl rfl rfl rfl rfl) $$ [Hl Hn HO Ht1 Ht2]
  · isplitr; · iexact He
    isplitl [Hl]; · iexact Hl
    isplitl [Hn]; · iexact Hn
    isplitl [HO]; · iexact HO
    isplitl [Ht1] <;> iassumption
  iintro ⟨Hc, HO⟩
  iapply (wp_waitK m K 1 14 [(2, 15)] 2048 0 (kvP 1 1 fullShare (kvAll m)) rfl rfl (by decide) rfl rfl (by decide)) $$ [Hd2 HO Ha2]
  · isplitr; · iexact He
    isplitl [Hd2]; · iexact Hd2
    isplitl [HO] <;> iassumption
  iintro ⟨HO, Ha2, Hw2⟩
  rw [ldWo_eq]
  iapply (wpc_ret (F := F))
  iapply Hq
  isplitl [HO]; · iexact HO
  isplitl [Ho]; · iexact Ho
  isplitl [Ha1]; · iexact Ha1
  isplitl [Ha2]; · iexact Ha2
  isplitl [Hr]; · iexact Hr
  isplitl [Hw2]; · iexact Hw2
  iexact Hc

/-- Device 3: batch 0 arrives, and one of its windows goes on to device 2. -/
theorem part7_dev3 (K : Dev nD × Fin 19 → ℕ) (v2 : BitVec 32) (v27 : FVec F S512x256 .f32) (v34 : FVec F S128x512 .f32) (fo : S256x512.Idx → F .f32) {Q : _ → sProp 𝕄} :
    iprop(env m K ∗ owesE 3 [(2, 14), (2, 16)] ∗ woP 3 fo ∗ due 3 14 2048 ∗ at0 3 14 ∗ due 3 13 2048 ∗ at0 3 13 ∗ kvAny 2 1 ∗ tok 3 3 10 ∗ tok 3 2 14)
      ⊢ iprop(((owesE 3 [(2, 16)] ∗ woP 3 fo ∗ at1 3 14 ∗ at1 3 13 ∗ kvP 3 1 fullShare.right (kvAll m) ∗ kvP 3 0 fullShare (kvAll m) ∗ due 3 10 2048)
            -∗ Q ⟨k0_pay9 v27 v34, k0_pay10 (ldWo fo), Scalar.extui (Scalar.cmpi .eq v2 2#32)⟩)
          -∗ wpc 3 (k0_part7 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 3 v2 v27 v34) Q) := by
  rw [k0_part7_eq_skeleton]
  unfold k0_part7_skel
  simp only [dif_neg (show ¬ k0_cond7 3 = 1#1 by decide), dif_pos (show k0_cond8 3 = 1#1 by decide)]
  simp only [semSignalWord, semWaitWord, Prog.lift, Prog.bind_op, Prog.bind_ret, Prog.pure_eq_ret]
  iintro ⟨#He, HO, Ho, Hd1, Ha1, Hd2, Ha2, Hn, Ht1, Ht2⟩ Hq
  iapply (wp_load 𝒱₀ ((3 : Dev nD) : Thread nD τ) none Set.univ (m := Memref.whole cc0_stg2_0) (Finset.subset_univ _)) $$ Ho; iintro Ho
  iapply (wp_waitK m K 3 14 [(2, 14), (2, 16)] 2048 0 (kvP 3 1 fullShare (kvAll m)) rfl rfl (by decide) rfl rfl (by decide)) $$ [Hd1 HO Ha1]
  · isplitr; · iexact He
    isplitl [Hd1]; · iexact Hd1
    isplitl [HO] <;> iassumption
  iintro ⟨HO, Ha1, Hw1⟩
  ihave Hsp := (kv_halves 3 1 fullShare (kvAll m)) $$ Hw1
  icases Hsp with ⟨Hl, Hr⟩
  iapply (wp_sendK m K 3 2 _ dev13_eq 1 10 14 fullShare.left [(2, 16)] rfl rfl (by decide) (by decide) rfl rfl rfl rfl rfl) $$ [Hl Hn HO Ht1 Ht2]
  · isplitr; · iexact He
    isplitl [Hl]; · iexact Hl
    isplitl [Hn]; · iexact Hn
    isplitl [HO]; · iexact HO
    isplitl [Ht1] <;> iassumption
  iintro ⟨Hc, HO⟩
  iapply (wp_waitK m K 3 13 [(2, 16)] 2048 0 (kvP 3 0 fullShare (kvAll m)) rfl rfl (by decide) rfl rfl (by decide)) $$ [Hd2 HO Ha2]
  · isplitr; · iexact He
    isplitl [Hd2]; · iexact Hd2
    isplitl [HO] <;> iassumption
  iintro ⟨HO, Ha2, Hw2⟩
  rw [ldWo_eq]
  iapply (wpc_ret (F := F))
  iapply Hq
  isplitl [HO]; · iexact HO
  isplitl [Ho]; · iexact Ho
  isplitl [Ha1]; · iexact Ha1
  isplitl [Ha2]; · iexact Ha2
  isplitl [Hr]; · iexact Hr
  isplitl [Hw2]; · iexact Hw2
  iexact Hc

/-- The first head of batch 0, on a device that has it. -/
theorem part8_other (K : Dev nD × Fin 19 → ℕ) (c : Dev nD) (q₀ q₁ : PosShare TreeShare) (v32 : FVec F S128x256 .f32) (v47 : BitVec 32) (h : ¬ Scalar.cmpi .ne v47 0#32 = 1#1) {Q : _ → sProp 𝕄} :
    iprop(env m K ∗ kvP c 0 q₀ (kvAll m) ∗ kvP c 1 q₁ (kvAll m))
      ⊢ iprop(((kvP c 0 q₀ (kvAll m) ∗ kvP c 1 q₁ (kvAll m))
            -∗ Q ⟨k0_pay11 v32, k0_pay13 (ldK m 1 0), k0_pay14 v32 (ldK m 0 0), k0_pay15 v32 (ldK m 0 0), k0_pay16 (ldK m 1 0)⟩)
          -∗ wpc c (k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v32 v47) Q) := by
  rw [k0_part8_eq_skeleton]
  unfold k0_part8_skel ldK
  rw [dif_neg h]
  simp only [semSignalWord, semWaitWord, Prog.lift, Prog.bind_op, Prog.bind_ret, Prog.pure_eq_ret]
  iintro ⟨#He, H0, H1⟩ Hq
  iapply (wp_load 𝒱₀ ((c : Dev nD) : Thread nD τ) none Set.univ (m := Memref.whole cc0_scratch0) (kvC_sub 0 0)) $$ H0; iintro H0
  iapply (wp_load 𝒱₀ ((c : Dev nD) : Thread nD τ) none Set.univ (m := Memref.whole cc0_scratch0) (kvC_sub 1 0)) $$ H1; iintro H1
  iapply (wpc_ret (F := F))
  iapply Hq
  isplitl [H0]; · iexact H0
  iexact H1

/-- Device 2: batch 0 arrives. -/
theorem part8_dev2 (K : Dev nD × Fin 19 → ℕ) (v32 : FVec F S128x256 .f32) (v47 : BitVec 32) (h : Scalar.cmpi .ne v47 0#32 = 1#1) {Q : _ → sProp 𝕄} :
    iprop(env m K ∗ owesE 2 [] ∗ due 2 13 2048 ∗ at0 2 13 ∗ due 2 14 2048 ∗ at0 2 14)
      ⊢ iprop(((owesE 2 [] ∗ at1 2 13 ∗ at1 2 14 ∗ kvP 2 0 fullShare (kvAll m) ∗ kvP 2 1 fullShare (kvAll m))
            -∗ Q ⟨k0_pay11 v32, k0_pay13 (ldK m 1 0), k0_pay14 v32 (ldK m 0 0), k0_pay15 v32 (ldK m 0 0), k0_pay16 (ldK m 1 0)⟩)
          -∗ wpc 2 (k0_part8 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v32 v47) Q) := by
  rw [k0_part8_eq_skeleton]
  unfold k0_part8_skel ldK
  rw [dif_pos h]
  simp only [semSignalWord, semWaitWord, Prog.lift, Prog.bind_op, Prog.bind_ret, Prog.pure_eq_ret]
  iintro ⟨#He, HO, Hd1, Ha1, Hd2, Ha2⟩ Hq
  iapply (wp_waitK m K 2 13 [] 2048 1 (kvP 2 0 fullShare (kvAll m)) rfl rfl (by decide) rfl rfl (by decide)) $$ [Hd1 HO Ha1]
  · isplitr; · iexact He
    isplitl [Hd1]; · iexact Hd1
    isplitl [HO] <;> iassumption
  iintro ⟨HO, Ha1, H0⟩
  iapply (wp_waitK m K 2 14 [] 2048 3 (kvP 2 1 fullShare (kvAll m)) rfl rfl (by decide) rfl rfl (by decide)) $$ [Hd2 HO Ha2]
  · isplitr; · iexact He
    isplitl [Hd2]; · iexact Hd2
    isplitl [HO] <;> iassumption
  iintro ⟨HO, Ha2, H1⟩
  iapply (wp_load 𝒱₀ ((2 : Dev nD) : Thread nD τ) none Set.univ (m := Memref.whole cc0_scratch0) (kvC_sub 0 0)) $$ H0; iintro H0
  iapply (wp_load 𝒱₀ ((2 : Dev nD) : Thread nD τ) none Set.univ (m := Memref.whole cc0_scratch0) (kvC_sub 1 0)) $$ H1; iintro H1
  iapply (wpc_ret (F := F))
  iapply Hq
  isplitl [HO]; · iexact HO
  isplitl [Ha1]; · iexact Ha1
  isplitl [Ha2]; · iexact Ha2
  isplitl [H0]; · iexact H0
  iexact H1

/-- The first head of batch 1, on a device that has it. -/
theorem part12_other (K : Dev nD × Fin 19 → ℕ) (c : Dev nD) (q₀ q₁ : PosShare TreeShare) (h₁ : ¬ k0_cond10 c = 1#1) (h₂ : ¬ k0_cond11 c = 1#1) (v2 : BitVec 32) (v37 : FVec F S128x256 .f32) (v188 : BitVec 32) (h : ¬ Scalar.cmpi .ne (Scalar.extui (Scalar.cmpi .eq v2 2#32)) 0#32 = 1#1) {Q : _ → sProp 𝕄} :
    iprop(env m K ∗ kvP c 2 q₀ (kvAll m) ∗ kvP c 3 q₁ (kvAll m))
      ⊢ iprop(((kvP c 2 q₀ (kvAll m) ∗ kvP c 3 q₁ (kvAll m))
            -∗ Q ⟨k0_pay26 v37, k0_pay27 (ldK m 2 0), ldK m 3 0⟩)
          -∗ wpc c (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v2 v37 v188) Q) := by
  rw [k0_part12_eq_skeleton]
  unfold k0_part12_skel ldK
  rw [dif_neg h₁, dif_neg h₂, dif_neg h]
  simp only [semSignalWord, semWaitWord, Prog.lift, Prog.bind_op, Prog.bind_ret, Prog.pure_eq_ret]
  iintro ⟨#He, H2, H3⟩ Hq
  iapply (wp_load 𝒱₀ ((c : Dev nD) : Thread nD τ) none Set.univ (m := Memref.whole cc0_scratch0) (kvC_sub 2 0)) $$ H2; iintro H2
  iapply (wp_load 𝒱₀ ((c : Dev nD) : Thread nD τ) none Set.univ (m := Memref.whole cc0_scratch0) (kvC_sub 3 0)) $$ H3; iintro H3
  iapply (wpc_ret (F := F))
  iapply Hq
  isplitl [H2]; · iexact H2
  iexact H3

/-- Device 2: batch 1 arrives. -/
theorem part12_dev2 (K : Dev nD × Fin 19 → ℕ) (v2 : BitVec 32) (v37 : FVec F S128x256 .f32) (v188 : BitVec 32) (h :  Scalar.cmpi .ne (Scalar.extui (Scalar.cmpi .eq v2 2#32)) 0#32 = 1#1) {Q : _ → sProp 𝕄} :
    iprop(env m K ∗ owesE 2 [] ∗ due 2 15 2048 ∗ at0 2 15 ∗ due 2 16 2048 ∗ at0 2 16)
      ⊢ iprop(((owesE 2 [] ∗ at1 2 15 ∗ at1 2 16 ∗ kvP 2 2 fullShare (kvAll m) ∗ kvP 2 3 fullShare (kvAll m))
            -∗ Q ⟨k0_pay26 v37, k0_pay27 (ldK m 2 0), ldK m 3 0⟩)
          -∗ wpc 2 (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 2 v2 v37 v188) Q) := by
  rw [k0_part12_eq_skeleton]
  unfold k0_part12_skel ldK
  rw [dif_neg (show ¬ k0_cond10 2 = 1#1 by decide), dif_neg (show ¬ k0_cond11 2 = 1#1 by decide), dif_pos h]
  simp only [semSignalWord, semWaitWord, Prog.lift, Prog.bind_op, Prog.bind_ret, Prog.pure_eq_ret]
  iintro ⟨#He, HO, Hd1, Ha1, Hd2, Ha2⟩ Hq
  iapply (wp_waitK m K 2 15 [] 2048 1 (kvP 2 2 fullShare (kvAll m)) rfl rfl (by decide) rfl rfl (by decide)) $$ [Hd1 HO Ha1]
  · isplitr; · iexact He
    isplitl [Hd1]; · iexact Hd1
    isplitl [HO] <;> iassumption
  iintro ⟨HO, Ha1, H2⟩
  iapply (wp_waitK m K 2 16 [] 2048 3 (kvP 2 3 fullShare (kvAll m)) rfl rfl (by decide) rfl rfl (by decide)) $$ [Hd2 HO Ha2]
  · isplitr; · iexact He
    isplitl [Hd2]; · iexact Hd2
    isplitl [HO] <;> iassumption
  iintro ⟨HO, Ha2, H3⟩
  iapply (wp_load 𝒱₀ ((2 : Dev nD) : Thread nD τ) none Set.univ (m := Memref.whole cc0_scratch0) (kvC_sub 2 0)) $$ H2; iintro H2
  iapply (wp_load 𝒱₀ ((2 : Dev nD) : Thread nD τ) none Set.univ (m := Memref.whole cc0_scratch0) (kvC_sub 3 0)) $$ H3; iintro H3
  iapply (wpc_ret (F := F))
  iapply Hq
  isplitl [HO]; · iexact HO
  isplitl [Ha1]; · iexact Ha1
  isplitl [Ha2]; · iexact Ha2
  isplitl [H2]; · iexact H2
  iexact H3

/-- Device 1: batch 1 arrives, and one of its windows goes on to device 2. -/
theorem part12_dev1 (K : Dev nD × Fin 19 → ℕ) (v2 : BitVec 32) (v37 : FVec F S128x256 .f32) (v188 : BitVec 32) (h : ¬ Scalar.cmpi .ne (Scalar.extui (Scalar.cmpi .eq v2 2#32)) 0#32 = 1#1) {Q : _ → sProp 𝕄} :
    iprop(env m K ∗ owesE 1 [(2, 15)] ∗ due 1 15 2048 ∗ at0 1 15 ∗ due 1 16 2048 ∗ at0 1 16 ∗ kvAny 2 2 ∗ tok 1 1 11 ∗ tok 1 2 15)
      ⊢ iprop(((owesE 1 [] ∗ at1 1 15 ∗ at1 1 16 ∗ kvP 1 2 fullShare.right (kvAll m) ∗ kvP 1 3 fullShare (kvAll m) ∗ due 1 11 2048)
            -∗ Q ⟨k0_pay26 v37, k0_pay27 (ldK m 2 0), ldK m 3 0⟩)
          -∗ wpc 1 (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 1 v2 v37 v188) Q) := by
  rw [k0_part12_eq_skeleton]
  unfold k0_part12_skel ldK
  rw [dif_pos (show k0_cond10 1 = 1#1 by decide), dif_neg (show ¬ k0_cond11 1 = 1#1 by decide), dif_neg h]
  simp only [semSignalWord, semWaitWord, Prog.lift, Prog.bind_op, Prog.bind_ret, Prog.pure_eq_ret]
  iintro ⟨#He, HO, Hd1, Ha1, Hd2, Ha2, Hn, Ht1, Ht2⟩ Hq
  iapply (wp_waitK m K 1 15 [(2, 15)] 2048 0 (kvP 1 2 fullShare (kvAll m)) rfl rfl (by decide) rfl rfl (by decide)) $$ [Hd1 HO Ha1]
  · isplitr; · iexact He
    isplitl [Hd1]; · iexact Hd1
    isplitl [HO] <;> iassumption
  iintro ⟨HO, Ha1, Hw1⟩
  ihave Hsp := (kv_halves 1 2 fullShare (kvAll m)) $$ Hw1
  icases Hsp with ⟨Hl, Hr⟩
  iapply (wp_sendK m K 1 2 _ dev14_eq 2 11 15 fullShare.left [] rfl rfl (by decide) (by decide) rfl rfl rfl rfl rfl) $$ [Hl Hn HO Ht1 Ht2]
  · isplitr; · iexact He
    isplitl [Hl]; · iexact Hl
    isplitl [Hn]; · iexact Hn
    isplitl [HO]; · iexact HO
    isplitl [Ht1] <;> iassumption
  iintro ⟨Hc, HO⟩
  iapply (wp_waitK m K 1 16 [] 2048 0 (kvP 1 3 fullShare (kvAll m)) rfl rfl (by decide) rfl rfl (by decide)) $$ [Hd2 HO Ha2]
  · isplitr; · iexact He
    isplitl [Hd2]; · iexact Hd2
    isplitl [HO] <;> iassumption
  iintro ⟨HO, Ha2, Hw2⟩
  iapply (wp_load 𝒱₀ ((1 : Dev nD) : Thread nD τ) none Set.univ (m := Memref.whole cc0_scratch0) (kvC_sub 2 0)) $$ Hr; iintro Hr
  iapply (wp_load 𝒱₀ ((1 : Dev nD) : Thread nD τ) none Set.univ (m := Memref.whole cc0_scratch0) (kvC_sub 3 0)) $$ Hw2; iintro Hw2
  iapply (wpc_ret (F := F))
  iapply Hq
  isplitl [HO]; · iexact HO
  isplitl [Ha1]; · iexact Ha1
  isplitl [Ha2]; · iexact Ha2
  isplitl [Hr]; · iexact Hr
  isplitl [Hw2]; · iexact Hw2
  iexact Hc

/-- Device 3: batch 1 arrives, and one of its windows goes on to device 2. -/
theorem part12_dev3 (K : Dev nD × Fin 19 → ℕ) (v2 : BitVec 32) (v37 : FVec F S128x256 .f32) (v188 : BitVec 32) (h : ¬ Scalar.cmpi .ne (Scalar.extui (Scalar.cmpi .eq v2 2#32)) 0#32 = 1#1) {Q : _ → sProp 𝕄} :
    iprop(env m K ∗ owesE 3 [(2, 16)] ∗ due 3 16 2048 ∗ at0 3 16 ∗ due 3 15 2048 ∗ at0 3 15 ∗ kvAny 2 3 ∗ tok 3 3 12 ∗ tok 3 2 16)
      ⊢ iprop(((owesE 3 [] ∗ at1 3 16 ∗ at1 3 15 ∗ kvP 3 3 fullShare.right (kvAll m) ∗ kvP 3 2 fullShare (kvAll m) ∗ due 3 12 2048)
            -∗ Q ⟨k0_pay26 v37, k0_pay27 (ldK m 2 0), ldK m 3 0⟩)
          -∗ wpc 3 (k0_part12 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 3 v2 v37 v188) Q) := by
  rw [k0_part12_eq_skeleton]
  unfold k0_part12_skel ldK
  rw [dif_neg (show ¬ k0_cond10 3 = 1#1 by decide), dif_pos (show k0_cond11 3 = 1#1 by decide), dif_neg h]
  simp only [semSignalWord, semWaitWord, Prog.lift, Prog.bind_op, Prog.bind_ret, Prog.pure_eq_ret]
  iintro ⟨#He, HO, Hd1, Ha1, Hd2, Ha2, Hn, Ht1, Ht2⟩ Hq
  iapply (wp_waitK m K 3 16 [(2, 16)] 2048 0 (kvP 3 3 fullShare (kvAll m)) rfl rfl (by decide) rfl rfl (by decide)) $$ [Hd1 HO Ha1]
  · isplitr; · iexact He
    isplitl [Hd1]; · iexact Hd1
    isplitl [HO] <;> iassumption
  iintro ⟨HO, Ha1, Hw1⟩
  ihave Hsp := (kv_halves 3 3 fullShare (kvAll m)) $$ Hw1
  icases Hsp with ⟨Hl, Hr⟩
  iapply (wp_sendK m K 3 2 _ dev15_eq 3 12 16 fullShare.left [] rfl rfl (by decide) (by decide) rfl rfl rfl rfl rfl) $$ [Hl Hn HO Ht1 Ht2]
  · isplitr; · iexact He
    isplitl [Hl]; · iexact Hl
    isplitl [Hn]; · iexact Hn
    isplitl [HO]; · iexact HO
    isplitl [Ht1] <;> iassumption
  iintro ⟨Hc, HO⟩
  iapply (wp_waitK m K 3 15 [] 2048 0 (kvP 3 2 fullShare (kvAll m)) rfl rfl (by decide) rfl rfl (by decide)) $$ [Hd2 HO Ha2]
  · isplitr; · iexact He
    isplitl [Hd2]; · iexact Hd2
    isplitl [HO] <;> iassumption
  iintro ⟨HO, Ha2, Hw2⟩
  iapply (wp_load 𝒱₀ ((3 : Dev nD) : Thread nD τ) none Set.univ (m := Memref.whole cc0_scratch0) (kvC_sub 2 0)) $$ Hw2; iintro Hw2
  iapply (wp_load 𝒱₀ ((3 : Dev nD) : Thread nD τ) none Set.univ (m := Memref.whole cc0_scratch0) (kvC_sub 3 0)) $$ Hr; iintro Hr
  iapply (wpc_ret (F := F))
  iapply Hq
  isplitl [HO]; · iexact HO
  isplitl [Ha1]; · iexact Ha1
  isplitl [Ha2]; · iexact Ha2
  isplitl [Hr]; · iexact Hr
  isplitl [Hw2]; · iexact Hw2
  iexact Hc

/-- Device 0: batch 0 has left. -/
theorem part4_dev0 (K : Dev nD × Fin 19 → ℕ)  {Q : _ → sProp 𝕄} :
    iprop(env m K ∗ owesE 0 [] ∗ due 0 1 2048 ∗ at0 0 1 ∗ due 0 2 2048 ∗ at0 0 2 ∗ due 0 3 2048 ∗ at0 0 3 ∗ due 0 4 2048 ∗ at0 0 4)
      ⊢ iprop(((owesE 0 [] ∗ at1 0 1 ∗ at1 0 2 ∗ at1 0 3 ∗ at1 0 4 ∗ kvP 0 0 fullShare.left (kvAll m) ∗ kvP 0 1 fullShare.left (kvAll m) ∗ kvP 0 1 fullShare.right.left (kvAll m) ∗ kvP 0 0 fullShare.right.left (kvAll m))
            -∗ Q ⟨⟩)
          -∗ wpc 0 (k0_part4 (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [k0_part4_eq_skeleton]
  unfold k0_part4_skel
  simp only [semSignalWord, semWaitWord, Prog.lift, Prog.bind_op, Prog.bind_ret, Prog.pure_eq_ret]
  iintro ⟨#He, HO, Hc0, Ha0, Hc1, Ha1, Hc2, Ha2, Hc3, Ha3⟩ Hq
  iapply (wp_waitK m K 0 1 [] 2048 0 (kvP 0 0 fullShare.left (kvAll m)) rfl rfl (by decide) rfl rfl (by decide)) $$ [Hc0 HO Ha0]
  · isplitr; · iexact He
    isplitl [Hc0]; · iexact Hc0
    isplitl [HO] <;> iassumption
  iintro ⟨HO, Ha0, Hw0⟩
  iapply (wp_waitK m K 0 2 [] 2048 0 (kvP 0 1 fullShare.left (kvAll m)) rfl rfl (by decide) rfl rfl (by decide)) $$ [Hc1 HO Ha1]
  · isplitr; · iexact He
    isplitl [Hc1]; · iexact Hc1
    isplitl [HO] <;> iassumption
  iintro ⟨HO, Ha1, Hw1⟩
  iapply (wp_waitK m K 0 3 [] 2048 0 (kvP 0 1 fullShare.right.left (kvAll m)) rfl rfl (by decide) rfl rfl (by decide)) $$ [Hc2 HO Ha2]
  · isplitr; · iexact He
    isplitl [Hc2]; · iexact Hc2
    isplitl [HO] <;> iassumption
  iintro ⟨HO, Ha2, Hw2⟩
  iapply (wp_waitK m K 0 4 [] 2048 0 (kvP 0 0 fullShare.right.left (kvAll m)) rfl rfl (by decide) rfl rfl (by decide)) $$ [Hc3 HO Ha3]
  · isplitr; · iexact He
    isplitl [Hc3]; · iexact Hc3
    isplitl [HO] <;> iassumption
  iintro ⟨HO, Ha3, Hw3⟩
  iapply (wpc_ret (F := F))
  iapply Hq
  isplitl [HO]; · iexact HO
  isplitl [Ha0]; · iexact Ha0
  isplitl [Ha1]; · iexact Ha1
  isplitl [Ha2]; · iexact Ha2
  isplitl [Ha3]; · iexact Ha3
  isplitl [Hw0]; · iexact Hw0
  isplitl [Hw1]; · iexact Hw1
  isplitl [Hw2]; · iexact Hw2
  iexact Hw3

end Cert.KernelIdeal.Hand
-- ==== Proof.Body.lean ====
module

public import proofs.«01_k».proof.Proof.Parts

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body of each device -/

theorem barP_zero (d : Dev nD) : (barP 0 d : sProp 𝕄) = iprop(kvAny d 0 ∗ kvAny d 1 ∗ kvAny d 2 ∗ kvAny d 3) := if_pos rfl
theorem barP_one (d : Dev nD) : (barP 1 d : sProp 𝕄) = iprop(kvAny d 0 ∗ kvAny d 2) := (if_neg (by decide)).trans (if_pos rfl)
theorem barP_three (d : Dev nD) : (barP 3 d : sProp 𝕄) = iprop(kvAny d 1 ∗ kvAny d 3) := (if_neg (by decide)).trans (if_neg (by decide))

/-- The result's row of batch 0, from what the devices load. -/
def row0 (fx : S2x128x512.Idx → F .f32) (fq : S512x256.Idx → F .f32) (fo : S256x512.Idx → F .f32) : FVec F S1x128x512 .f32 :=
  let v32 := k0_pay7 (ldWq fq) (ldX 0 fx)
  let v49 := k0_pay11 v32
  k0_pay25 (k0_pay10 (ldWo fo)) (k0_pay17 (k0_pay13 (ldK m 1 0)) (k0_pay14 v32 (ldK m 0 0)) (k0_pay15 v32 (ldK m 0 0)) (k0_pay16 (ldK m 1 0)))
    (k0_pay18 v49 (ldK m 0 1) (ldK m 1 1)) (k0_pay20 v49 (k0_pay19 (ldK m 0 2)) (ldK m 1 2)) (k0_pay21 (ldK m 0 3)) (k0_pay22 (ldK m 1 3)) (k0_pay23 v49) (k0_pay24 v49 (ldK m 0 3))

/-- The result's row of batch 1. -/
def row1 (fx : S2x128x512.Idx → F .f32) (fq : S512x256.Idx → F .f32) (fo : S256x512.Idx → F .f32) : FVec F S1x128x512 .f32 :=
  let v196 := k0_pay26 (k0_pay9 (k0_pay6 (ldWq fq)) (k0_pay8 (ldX 1 fx)))
  let K1 := ldK m 2 1
  let K2 := ldK m 2 2
  let K3 := ldK m 2 3
  k0_pay46 (k0_pay10 (ldWo fo)) (k0_pay28 v196 (k0_pay27 (ldK m 2 0)) (ldK m 3 0)) (k0_pay34 (k0_pay30 (ldK m 3 1)) (k0_pay31 v196 K1) (k0_pay32 v196 K1) (k0_pay33 v196 K1))
    (k0_pay40 (k0_pay36 (ldK m 3 2)) (k0_pay37 v196 K2) (k0_pay38 v196 K2) (k0_pay39 v196 K2)) (k0_pay42 (ldK m 3 3)) (k0_pay43 v196 K3) (k0_pay44 v196 K3) (k0_pay45 (ldK m 3 3))

/-- Device 0, whole. -/
theorem body_dev0 (K : Dev nD × Fin 19 → ℕ) (g₁ g₂ : S2x128x4x64.Idx → F .f32) (fx : S2x128x512.Idx → F .f32) (fq : S512x256.Idx → F .f32) (fo : S256x512.Idx → F .f32) (g : S2x128x512.Idx → F .f32) {Q : _ → sProp 𝕄} :
    iprop(env m K ∗ owesE 0 [(1, 13), (3, 14), (1, 14), (3, 13), (1, 15), (3, 16), (1, 16), (3, 15)] ∗ s1P 0 g₁ ∗ s2P 0 g₂ ∗ kMem m 0 ∗ vMem m 0 ∗ barP 0 0 ∗ tok 0 0 17 ∗ tok 0 0 18 ∗ due 0 0 2 ∗ tok 0 0 1 ∗ tok 0 1 13 ∗ tok 0 0 2 ∗ tok 0 3 14 ∗ tok 0 0 3 ∗ tok 0 1 14 ∗ tok 0 0 4 ∗ tok 0 3 13 ∗ tok 0 0 5 ∗ tok 0 1 15 ∗ tok 0 0 6 ∗ tok 0 3 16 ∗ tok 0 0 7 ∗ tok 0 1 16 ∗ tok 0 0 8 ∗ tok 0 3 15 ∗ at0 0 0 ∗ at0 0 1 ∗ at0 0 2 ∗ at0 0 3 ∗ at0 0 4 ∗ at0 0 5 ∗ at0 0 6 ∗ at0 0 7 ∗ at0 0 8 ∗ at0 0 17 ∗ at0 0 18 ∗ xP 0 fx ∗ wqP 0 fq ∗ woP 0 fo ∗ outP 0 g)
      ⊢ iprop(((owesE 0 [] ∗ at1 0 0 ∗ at1 0 1 ∗ at1 0 2 ∗ at1 0 3 ∗ at1 0 4 ∗ at1 0 5 ∗ at1 0 6 ∗ at1 0 7 ∗ at1 0 8 ∗ at1 0 17 ∗ at1 0 18 ∗ kvP 0 0 fullShare (kvAll m) ∗ kvP 0 1 fullShare (kvAll m) ∗ kvP 0 2 fullShare (kvAll m) ∗ kvP 0 3 fullShare (kvAll m) ∗ s1P 0 (kIn m) ∗ s2P 0 (vIn m) ∗ kMem m 0 ∗ vMem m 0 ∗ xP 0 fx ∗ wqP 0 fq ∗ woP 0 fo ∗ outP 0 (outW 1 (row1 m fx fq fo) (outW 0 (row0 m fx fq fo) g)))
            -∗ Q ⟨⟩)
          -∗ wpc 0 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0_body_eq_skeleton]
  unfold cc0_body_skel
  iintro ⟨#He, HO, Hs1, Hs2, Hk, Hv, Hb, Ht17, Ht18, Hd, Ht0, Hu0, Ht1, Hu1, Ht2, Hu2, Ht3, Hu3, Ht4, Hu4, Ht5, Hu5, Ht6, Hu6, Ht7, Hu7, Ha0, Ha1, Ha2, Ha3, Ha4, Ha5, Ha6, Ha7, Ha8, Ha17, Ha18, Hx, Hq1, Ho, Hg⟩ Hq
  iapply (wpc_bind (F := F))
  iapply (part5_dev0 m K g₁ g₂) $$ [HO Hs1 Hs2 Hk Hv Ht17 Ht18 Hd Ha0]
  · isplitr; · iexact He
    isplitl [HO]; · iexact HO
    isplitl [Hs1]; · iexact Hs1
    isplitl [Hs2]; · iexact Hs2
    isplitl [Hk]; · iexact Hk
    isplitl [Hv]; · iexact Hv
    isplitl [Ht17]; · iexact Ht17
    isplitl [Ht18]; · iexact Ht18
    isplitl [Hd]; · iexact Hd
    iexact Ha0
  iintro ⟨HO, Hd1, Hd2, Ha0, Hb1, Hb3⟩
  beta_reduce
  ihave Hb := (Entails.of_eq (barP_zero 0)) $$ Hb
  icases Hb with ⟨H0, H1, H2, H3⟩
  ihave Hb1 := (Entails.of_eq (barP_zero 1)) $$ Hb1
  icases Hb1 with ⟨Hn10, Hn11, Hn12, Hn13⟩
  ihave Hb3 := (Entails.of_eq (barP_zero 3)) $$ Hb3
  icases Hb3 with ⟨Hn30, Hn31, Hn32, Hn33⟩
  iapply (wpc_bind (F := F))
  iapply (part6_dev0 m K _ fx fq) $$ [HO Hd1 Hd2 Ha17 Ha18 H0 H1 H2 H3 Hn10 Hn11 Hn12 Hn13 Hn30 Hn31 Hn32 Hn33 Ht0 Hu0 Ht1 Hu1 Ht2 Hu2 Ht3 Hu3 Ht4 Hu4 Ht5 Hu5 Ht6 Hu6 Ht7 Hu7 Hx Hq1]
  · isplitr; · iexact He
    isplitl [HO]; · iexact HO
    isplitl [Hd1]; · iexact Hd1
    isplitl [Hd2]; · iexact Hd2
    isplitl [Ha17]; · iexact Ha17
    isplitl [Ha18]; · iexact Ha18
    isplitl [H0]; · iexact H0
    isplitl [H1]; · iexact H1
    isplitl [H2]; · iexact H2
    isplitl [H3]; · iexact H3
    isplitl [Hn10]; · iexact Hn10
    isplitl [Hn11]; · iexact Hn11
    isplitl [Hn12]; · iexact Hn12
    isplitl [Hn13]; · iexact Hn13
    isplitl [Hn30]; · iexact Hn30
    isplitl [Hn31]; · iexact Hn31
    isplitl [Hn32]; · iexact Hn32
    isplitl [Hn33]; · iexact Hn33
    isplitl [Ht0]; · iexact Ht0
    isplitl [Hu0]; · iexact Hu0
    isplitl [Ht1]; · iexact Ht1
    isplitl [Hu1]; · iexact Hu1
    isplitl [Ht2]; · iexact Ht2
    isplitl [Hu2]; · iexact Hu2
    isplitl [Ht3]; · iexact Ht3
    isplitl [Hu3]; · iexact Hu3
    isplitl [Ht4]; · iexact Ht4
    isplitl [Hu4]; · iexact Hu4
    isplitl [Ht5]; · iexact Ht5
    isplitl [Hu5]; · iexact Hu5
    isplitl [Ht6]; · iexact Ht6
    isplitl [Hu6]; · iexact Hu6
    isplitl [Ht7]; · iexact Ht7
    isplitl [Hu7]; · iexact Hu7
    isplitl [Hx]; · iexact Hx
    iexact Hq1
  iintro ⟨HO, Ha17, Ha18, Hs1, Hs2, Hk, Hv, H0, H1, H2, H3, Hc0, Hc1, Hc2, Hc3, Hc4, Hc5, Hc6, Hc7, Hx, Hq1⟩
  beta_reduce
  iapply (wpc_bind (F := F))
  iapply (part7_other m K 0 (by decide) (by decide) (place 0) _ _ fo) $$ [Ho]
  · isplitr; · iexact He
    iexact Ho
  iintro Ho
  beta_reduce
  iapply (wpc_bind (F := F))
  iapply (part8_other m K 0 fullShare.right.right fullShare.right.right _ (Scalar.extui (Scalar.cmpi .eq (place 0) 2#32)) (by decide)) $$ [H0 H1]
  · isplitr; · iexact He
    isplitl [H0]; · iexact H0
    iexact H1
  iintro ⟨H0, H1⟩
  beta_reduce
  iapply (wpc_bind (F := F))
  iapply (part9_spec m 0 fullShare.right.right fullShare.right.right _ _ _ _ _) $$ [H0 H1]
  · isplitl [H0]; · iexact H0
    iexact H1
  iintro ⟨H0, H1⟩
  beta_reduce
  iapply (wpc_bind (F := F))
  iapply (part10_spec m 0 fullShare.right.right fullShare.right.right _ _) $$ [H0 H1]
  · isplitl [H0]; · iexact H0
    iexact H1
  iintro ⟨H0, H1⟩
  beta_reduce
  iapply (wpc_bind (F := F))
  iapply (part11_spec 0 _ _ _ _ _ _ _ _ _ g) $$ [Hg]
  · iexact Hg
  iintro Hg
  beta_reduce
  iapply (wpc_bind (F := F))
  iapply (part12_other m K 0 fullShare.right.right fullShare.right.right (by decide) (by decide) (place 0) _ _ (by decide)) $$ [H2 H3]
  · isplitr; · iexact He
    isplitl [H2]; · iexact H2
    iexact H3
  iintro ⟨H2, H3⟩
  beta_reduce
  iapply (wpc_bind (F := F))
  iapply (part13_spec m 0 fullShare.right.right fullShare.right.right _ _ _) $$ [H2 H3]
  · isplitl [H2]; · iexact H2
    iexact H3
  iintro ⟨H2, H3⟩
  beta_reduce
  iapply (wpc_bind (F := F))
  iapply (part14_spec m 0 fullShare.right.right fullShare.right.right _ _ _ _ _) $$ [H2 H3]
  · isplitl [H2]; · iexact H2
    iexact H3
  iintro ⟨H2, H3⟩
  beta_reduce
  iapply (wpc_bind (F := F))
  iapply (part15_spec m 0 fullShare.right.right fullShare.right.right _ _ _ _ _) $$ [H2 H3]
  · isplitl [H2]; · iexact H2
    iexact H3
  iintro ⟨H2, H3⟩
  beta_reduce
  iapply (wpc_bind (F := F))
  iapply (part16_spec 0 _ _ _ _ _ _ _ _ _) $$ [Hg]
  · iexact Hg
  iintro Hg
  beta_reduce
  rw [dif_pos (by decide), dif_neg (by decide), dif_neg (by decide)]
  simp only [Prog.lift, Prog.bind_op, Prog.bind_ret, Prog.pure_eq_ret]
  iapply (wpc_bind (F := F))
  iapply (part4_dev0 m K) $$ [HO Hc0 Ha1 Hc1 Ha2 Hc2 Ha3 Hc3 Ha4]
  · isplitr; · iexact He
    isplitl [HO]; · iexact HO
    isplitl [Hc0]; · iexact Hc0
    isplitl [Ha1]; · iexact Ha1
    isplitl [Hc1]; · iexact Hc1
    isplitl [Ha2]; · iexact Ha2
    isplitl [Hc2]; · iexact Hc2
    isplitl [Ha3]; · iexact Ha3
    isplitl [Hc3]; · iexact Hc3
    iexact Ha4
  iintro ⟨HO, Ha1, Ha2, Ha3, Ha4, Hw0, Hw1, Hw2, Hw3⟩
  beta_reduce
  iapply (wp_waitK m K 0 5 [] 2048 0 (kvP 0 2 fullShare.left (kvAll m)) rfl rfl (by decide) rfl rfl (by decide)) $$ [Hc4 HO Ha5]
  · isplitr; · iexact He
    isplitl [Hc4]; · iexact Hc4
    isplitl [HO] <;> iassumption
  iintro ⟨HO, Ha5, Hw4⟩
  iapply (wp_waitK m K 0 6 [] 2048 0 (kvP 0 3 fullShare.left (kvAll m)) rfl rfl (by decide) rfl rfl (by decide)) $$ [Hc5 HO Ha6]
  · isplitr; · iexact He
    isplitl [Hc5]; · iexact Hc5
    isplitl [HO] <;> iassumption
  iintro ⟨HO, Ha6, Hw5⟩
  iapply (wp_waitK m K 0 7 [] 2048 0 (kvP 0 3 fullShare.right.left (kvAll m)) rfl rfl (by decide) rfl rfl (by decide)) $$ [Hc6 HO Ha7]
  · isplitr; · iexact He
    isplitl [Hc6]; · iexact Hc6
    isplitl [HO] <;> iassumption
  iintro ⟨HO, Ha7, Hw6⟩
  iapply (wp_waitK m K 0 8 [] 2048 0 (kvP 0 2 fullShare.right.left (kvAll m)) rfl rfl (by decide) rfl rfl (by decide)) $$ [Hc7 HO Ha8]
  · isplitr; · iexact He
    isplitl [Hc7]; · iexact Hc7
    isplitl [HO] <;> iassumption
  iintro ⟨HO, Ha8, Hw7⟩
  ihave H0r := (kv_whole 0 0 fullShare.right (kvAll m)) $$ [Hw3 H0]
  · isplitl [Hw3]; · iexact Hw3
    iexact H0
  ihave H0 := (kv_whole 0 0 fullShare (kvAll m)) $$ [Hw0 H0r]
  · isplitl [Hw0]; · iexact Hw0
    iexact H0r
  ihave H1r := (kv_whole 0 1 fullShare.right (kvAll m)) $$ [Hw2 H1]
  · isplitl [Hw2]; · iexact Hw2
    iexact H1
  ihave H1 := (kv_whole 0 1 fullShare (kvAll m)) $$ [Hw1 H1r]
  · isplitl [Hw1]; · iexact Hw1
    iexact H1r
  ihave H2r := (kv_whole 0 2 fullShare.right (kvAll m)) $$ [Hw7 H2]
  · isplitl [Hw7]; · iexact Hw7
    iexact H2
  ihave H2 := (kv_whole 0 2 fullShare (kvAll m)) $$ [Hw4 H2r]
  · isplitl [Hw4]; · iexact Hw4
    iexact H2r
  ihave H3r := (kv_whole 0 3 fullShare.right (kvAll m)) $$ [Hw6 H3]
  · isplitl [Hw6]; · iexact Hw6
    iexact H3
  ihave H3 := (kv_whole 0 3 fullShare (kvAll m)) $$ [Hw5 H3r]
  · isplitl [Hw5]; · iexact Hw5
    iexact H3r
  iapply (wpc_ret (F := F))
  iapply Hq
  isplitl [HO]; · iexact HO
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Ha6]; · iexact Ha6
  isplitl [Ha7]; · iexact Ha7
  isplitl [Ha8]; · iexact Ha8
  isplitl [Ha17]; · iexact Ha17
  isplitl [Ha18]; · iexact Ha18
  isplitl [H0]; · iexact H0
  isplitl [H1]; · iexact H1
  isplitl [H2]; · iexact H2
  isplitl [H3]; · iexact H3
  isplitl [Hs1]; · iexact Hs1
  isplitl [Hs2]; · iexact Hs2
  isplitl [Hk]; · iexact Hk
  isplitl [Hv]; · iexact Hv
  isplitl [Hx]; · iexact Hx
  isplitl [Hq1]; · iexact Hq1
  isplitl [Ho]; · iexact Ho
  iexact Hg

/-- Device 1, whole. -/
theorem body_dev1 (K : Dev nD × Fin 19 → ℕ) (fx : S2x128x512.Idx → F .f32) (fq : S512x256.Idx → F .f32) (fo : S256x512.Idx → F .f32) (g : S2x128x512.Idx → F .f32) {Q : _ → sProp 𝕄} :
    iprop(env m K ∗ owesE 1 [(0, 0), (2, 13), (2, 15)] ∗ barP 0 1 ∗ tok 1 0 0 ∗ due 1 0 1 ∗ tok 1 1 9 ∗ tok 1 2 13 ∗ tok 1 1 11 ∗ tok 1 2 15 ∗ due 1 13 2048 ∗ due 1 14 2048 ∗ due 1 15 2048 ∗ due 1 16 2048 ∗ at0 1 0 ∗ at0 1 9 ∗ at0 1 11 ∗ at0 1 13 ∗ at0 1 14 ∗ at0 1 15 ∗ at0 1 16 ∗ xP 1 fx ∗ wqP 1 fq ∗ woP 1 fo ∗ outP 1 g)
      ⊢ iprop(((owesE 1 [] ∗ at1 1 0 ∗ at1 1 9 ∗ at1 1 11 ∗ at1 1 13 ∗ at1 1 14 ∗ at1 1 15 ∗ at1 1 16 ∗ kvP 1 0 fullShare (kvAll m) ∗ kvP 1 1 fullShare (kvAll m) ∗ kvP 1 2 fullShare (kvAll m) ∗ kvP 1 3 fullShare (kvAll m) ∗ xP 1 fx ∗ wqP 1 fq ∗ woP 1 fo ∗ outP 1 (outW 1 (row1 m fx fq fo) (outW 0 (row0 m fx fq fo) g)))
            -∗ Q ⟨⟩)
          -∗ wpc 1 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0_body_eq_skeleton]
  unfold cc0_body_skel
  iintro ⟨#He, HO, Hb, Ht0, Hd0, Ht9, Hu9, Ht11, Hu11, Hd13, Hd14, Hd15, Hd16, Ha0, Ha9, Ha11, Ha13, Ha14, Ha15, Ha16, Hx, Hq1, Ho, Hg⟩ Hq
  iapply (wpc_bind (F := F))
  iapply (part5_dev1 m K) $$ [HO Hb Ht0 Hd0 Ha0]
  · isplitr; · iexact He
    isplitl [HO]; · iexact HO
    isplitl [Hb]; · iexact Hb
    isplitl [Ht0]; · iexact Ht0
    isplitl [Hd0]; · iexact Hd0
    iexact Ha0
  iintro ⟨HO, Ha0, Hb2⟩
  beta_reduce
  ihave Hb2 := (Entails.of_eq (barP_one 2)) $$ Hb2
  icases Hb2 with ⟨Hn0, Hn2⟩
  iapply (wpc_bind (F := F))
  iapply (part6_other m K 1 (by decide) _ fx fq) $$ [Hx Hq1]
  · isplitr; · iexact He
    isplitl [Hx]; · iexact Hx
    iexact Hq1
  iintro ⟨Hx, Hq1⟩
  beta_reduce
  iapply (wpc_bind (F := F))
  iapply (part7_dev1 m K (place 1) _ _ fo) $$ [HO Ho Hd13 Ha13 Hd14 Ha14 Hn0 Ht9 Hu9]
  · isplitr; · iexact He
    isplitl [HO]; · iexact HO
    isplitl [Ho]; · iexact Ho
    isplitl [Hd13]; · iexact Hd13
    isplitl [Ha13]; · iexact Ha13
    isplitl [Hd14]; · iexact Hd14
    isplitl [Ha14]; · iexact Ha14
    isplitl [Hn0]; · iexact Hn0
    isplitl [Ht9]; · iexact Ht9
    iexact Hu9
  iintro ⟨HO, Ho, Ha13, Ha14, H0, H1, Hc9⟩
  beta_reduce
  iapply (wpc_bind (F := F))
  iapply (part8_other m K 1 fullShare.right fullShare _ (Scalar.extui (Scalar.cmpi .eq (place 1) 2#32)) (by decide)) $$ [H0 H1]
  · isplitr; · iexact He
    isplitl [H0]; · iexact H0
    iexact H1
  iintro ⟨H0, H1⟩
  beta_reduce
  iapply (wpc_bind (F := F))
  iapply (part9_spec m 1 fullShare.right fullShare _ _ _ _ _) $$ [H0 H1]
  · isplitl [H0]; · iexact H0
    iexact H1
  iintro ⟨H0, H1⟩
  beta_reduce
  iapply (wpc_bind (F := F))
  iapply (part10_spec m 1 fullShare.right fullShare _ _) $$ [H0 H1]
  · isplitl [H0]; · iexact H0
    iexact H1
  iintro ⟨H0, H1⟩
  beta_reduce
  iapply (wpc_bind (F := F))
  iapply (part11_spec 1 _ _ _ _ _ _ _ _ _ g) $$ [Hg]
  · iexact Hg
  iintro Hg
  beta_reduce
  iapply (wpc_bind (F := F))
  iapply (part12_dev1 m K (place 1) _ _ (by decide)) $$ [HO Hd15 Ha15 Hd16 Ha16 Hn2 Ht11 Hu11]
  · isplitr; · iexact He
    isplitl [HO]; · iexact HO
    isplitl [Hd15]; · iexact Hd15
    isplitl [Ha15]; · iexact Ha15
    isplitl [Hd16]; · iexact Hd16
    isplitl [Ha16]; · iexact Ha16
    isplitl [Hn2]; · iexact Hn2
    isplitl [Ht11]; · iexact Ht11
    iexact Hu11
  iintro ⟨HO, Ha15, Ha16, H2, H3, Hc11⟩
  beta_reduce
  iapply (wpc_bind (F := F))
  iapply (part13_spec m 1 fullShare.right fullShare _ _ _) $$ [H2 H3]
  · isplitl [H2]; · iexact H2
    iexact H3
  iintro ⟨H2, H3⟩
  beta_reduce
  iapply (wpc_bind (F := F))
  iapply (part14_spec m 1 fullShare.right fullShare _ _ _ _ _) $$ [H2 H3]
  · isplitl [H2]; · iexact H2
    iexact H3
  iintro ⟨H2, H3⟩
  beta_reduce
  iapply (wpc_bind (F := F))
  iapply (part15_spec m 1 fullShare.right fullShare _ _ _ _ _) $$ [H2 H3]
  · isplitl [H2]; · iexact H2
    iexact H3
  iintro ⟨H2, H3⟩
  beta_reduce
  iapply (wpc_bind (F := F))
  iapply (part16_spec 1 _ _ _ _ _ _ _ _ _) $$ [Hg]
  · iexact Hg
  iintro Hg
  beta_reduce
  rw [dif_neg (by decide), dif_pos (by decide), dif_neg (by decide)]
  simp only [Prog.lift, Prog.bind_op, Prog.bind_ret, Prog.pure_eq_ret]
  iapply (wp_waitK m K 1 9 [] 2048 1 (kvP 1 0 fullShare.left (kvAll m)) rfl rfl (by decide) rfl rfl (by decide)) $$ [Hc9 HO Ha9]
  · isplitr; · iexact He
    isplitl [Hc9]; · iexact Hc9
    isplitl [HO] <;> iassumption
  iintro ⟨HO, Ha9, Hl0⟩
  ihave H0 := (kv_whole 1 0 fullShare (kvAll m)) $$ [Hl0 H0]
  · isplitl [Hl0]; · iexact Hl0
    iexact H0
  iapply (wp_waitK m K 1 11 [] 2048 1 (kvP 1 2 fullShare.left (kvAll m)) rfl rfl (by decide) rfl rfl (by decide)) $$ [Hc11 HO Ha11]
  · isplitr; · iexact He
    isplitl [Hc11]; · iexact Hc11
    isplitl [HO] <;> iassumption
  iintro ⟨HO, Ha11, Hl2⟩
  ihave H2 := (kv_whole 1 2 fullShare (kvAll m)) $$ [Hl2 H2]
  · isplitl [Hl2]; · iexact Hl2
    iexact H2
  iapply (wpc_ret (F := F))
  iapply Hq
  isplitl [HO]; · iexact HO
  isplitl [Ha0]; · iexact Ha0
  isplitl [Ha9]; · iexact Ha9
  isplitl [Ha11]; · iexact Ha11
  isplitl [Ha13]; · iexact Ha13
  isplitl [Ha14]; · iexact Ha14
  isplitl [Ha15]; · iexact Ha15
  isplitl [Ha16]; · iexact Ha16
  isplitl [H0]; · iexact H0
  isplitl [H1]; · iexact H1
  isplitl [H2]; · iexact H2
  isplitl [H3]; · iexact H3
  isplitl [Hx]; · iexact Hx
  isplitl [Hq1]; · iexact Hq1
  isplitl [Ho]; · iexact Ho
  iexact Hg

/-- Device 2, whole. -/
theorem body_dev2 (K : Dev nD × Fin 19 → ℕ) (fx : S2x128x512.Idx → F .f32) (fq : S512x256.Idx → F .f32) (fo : S256x512.Idx → F .f32) (g : S2x128x512.Idx → F .f32) {Q : _ → sProp 𝕄} :
    iprop(env m K ∗ owesE 2 [(1, 0), (3, 0)] ∗ barP 1 2 ∗ barP 3 2 ∗ tok 2 1 0 ∗ tok 2 3 0 ∗ due 2 13 2048 ∗ due 2 14 2048 ∗ due 2 15 2048 ∗ due 2 16 2048 ∗ at0 2 13 ∗ at0 2 14 ∗ at0 2 15 ∗ at0 2 16 ∗ xP 2 fx ∗ wqP 2 fq ∗ woP 2 fo ∗ outP 2 g)
      ⊢ iprop(((owesE 2 [] ∗ at1 2 13 ∗ at1 2 14 ∗ at1 2 15 ∗ at1 2 16 ∗ kvP 2 0 fullShare (kvAll m) ∗ kvP 2 1 fullShare (kvAll m) ∗ kvP 2 2 fullShare (kvAll m) ∗ kvP 2 3 fullShare (kvAll m) ∗ xP 2 fx ∗ wqP 2 fq ∗ woP 2 fo ∗ outP 2 (outW 1 (row1 m fx fq fo) (outW 0 (row0 m fx fq fo) g)))
            -∗ Q ⟨⟩)
          -∗ wpc 2 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0_body_eq_skeleton]
  unfold cc0_body_skel
  iintro ⟨#He, HO, Hb1, Hb3, Ht1, Ht3, Hd13, Hd14, Hd15, Hd16, Ha13, Ha14, Ha15, Ha16, Hx, Hq1, Ho, Hg⟩ Hq
  iapply (wpc_bind (F := F))
  iapply (part5_dev2 m K) $$ [HO Hb1 Hb3 Ht1 Ht3]
  · isplitr; · iexact He
    isplitl [HO]; · iexact HO
    isplitl [Hb1]; · iexact Hb1
    isplitl [Hb3]; · iexact Hb3
    isplitl [Ht1]; · iexact Ht1
    iexact Ht3
  iintro HO
  beta_reduce
  iapply (wpc_bind (F := F))
  iapply (part6_other m K 2 (by decide) _ fx fq) $$ [Hx Hq1]
  · isplitr; · iexact He
    isplitl [Hx]; · iexact Hx
    iexact Hq1
  iintro ⟨Hx, Hq1⟩
  beta_reduce
  iapply (wpc_bind (F := F))
  iapply (part7_other m K 2 (by decide) (by decide) (place 2) _ _ fo) $$ [Ho]
  · isplitr; · iexact He
    iexact Ho
  iintro Ho
  beta_reduce
  iapply (wpc_bind (F := F))
  iapply (part8_dev2 m K _ (Scalar.extui (Scalar.cmpi .eq (place 2) 2#32)) (by decide)) $$ [HO Hd13 Ha13 Hd14 Ha14]
  · isplitr; · iexact He
    isplitl [HO]; · iexact HO
    isplitl [Hd13]; · iexact Hd13
    isplitl [Ha13]; · iexact Ha13
    isplitl [Hd14]; · iexact Hd14
    iexact Ha14
  iintro ⟨HO, Ha13, Ha14, H0, H1⟩
  beta_reduce
  iapply (wpc_bind (F := F))
  iapply (part9_spec m 2 fullShare fullShare _ _ _ _ _) $$ [H0 H1]
  · isplitl [H0]; · iexact H0
    iexact H1
  iintro ⟨H0, H1⟩
  beta_reduce
  iapply (wpc_bind (F := F))
  iapply (part10_spec m 2 fullShare fullShare _ _) $$ [H0 H1]
  · isplitl [H0]; · iexact H0
    iexact H1
  iintro ⟨H0, H1⟩
  beta_reduce
  iapply (wpc_bind (F := F))
  iapply (part11_spec 2 _ _ _ _ _ _ _ _ _ g) $$ [Hg]
  · iexact Hg
  iintro Hg
  beta_reduce
  iapply (wpc_bind (F := F))
  iapply (part12_dev2 m K (place 2) _ _ (by decide)) $$ [HO Hd15 Ha15 Hd16 Ha16]
  · isplitr; · iexact He
    isplitl [HO]; · iexact HO
    isplitl [Hd15]; · iexact Hd15
    isplitl [Ha15]; · iexact Ha15
    isplitl [Hd16]; · iexact Hd16
    iexact Ha16
  iintro ⟨HO, Ha15, Ha16, H2, H3⟩
  beta_reduce
  iapply (wpc_bind (F := F))
  iapply (part13_spec m 2 fullShare fullShare _ _ _) $$ [H2 H3]
  · isplitl [H2]; · iexact H2
    iexact H3
  iintro ⟨H2, H3⟩
  beta_reduce
  iapply (wpc_bind (F := F))
  iapply (part14_spec m 2 fullShare fullShare _ _ _ _ _) $$ [H2 H3]
  · isplitl [H2]; · iexact H2
    iexact H3
  iintro ⟨H2, H3⟩
  beta_reduce
  iapply (wpc_bind (F := F))
  iapply (part15_spec m 2 fullShare fullShare _ _ _ _ _) $$ [H2 H3]
  · isplitl [H2]; · iexact H2
    iexact H3
  iintro ⟨H2, H3⟩
  beta_reduce
  iapply (wpc_bind (F := F))
  iapply (part16_spec 2 _ _ _ _ _ _ _ _ _) $$ [Hg]
  · iexact Hg
  iintro Hg
  beta_reduce
  rw [dif_neg (by decide), dif_neg (by decide), dif_neg (by decide)]
  iapply (wpc_ret (F := F))
  iapply Hq
  isplitl [HO]; · iexact HO
  isplitl [Ha13]; · iexact Ha13
  isplitl [Ha14]; · iexact Ha14
  isplitl [Ha15]; · iexact Ha15
  isplitl [Ha16]; · iexact Ha16
  isplitl [H0]; · iexact H0
  isplitl [H1]; · iexact H1
  isplitl [H2]; · iexact H2
  isplitl [H3]; · iexact H3
  isplitl [Hx]; · iexact Hx
  isplitl [Hq1]; · iexact Hq1
  isplitl [Ho]; · iexact Ho
  iexact Hg

/-- Device 3, whole. -/
theorem body_dev3 (K : Dev nD × Fin 19 → ℕ) (fx : S2x128x512.Idx → F .f32) (fq : S512x256.Idx → F .f32) (fo : S256x512.Idx → F .f32) (g : S2x128x512.Idx → F .f32) {Q : _ → sProp 𝕄} :
    iprop(env m K ∗ owesE 3 [(0, 0), (2, 14), (2, 16)] ∗ barP 0 3 ∗ tok 3 0 0 ∗ due 3 0 1 ∗ tok 3 3 10 ∗ tok 3 2 14 ∗ tok 3 3 12 ∗ tok 3 2 16 ∗ due 3 13 2048 ∗ due 3 14 2048 ∗ due 3 15 2048 ∗ due 3 16 2048 ∗ at0 3 0 ∗ at0 3 10 ∗ at0 3 12 ∗ at0 3 13 ∗ at0 3 14 ∗ at0 3 15 ∗ at0 3 16 ∗ xP 3 fx ∗ wqP 3 fq ∗ woP 3 fo ∗ outP 3 g)
      ⊢ iprop(((owesE 3 [] ∗ at1 3 0 ∗ at1 3 10 ∗ at1 3 12 ∗ at1 3 13 ∗ at1 3 14 ∗ at1 3 15 ∗ at1 3 16 ∗ kvP 3 0 fullShare (kvAll m) ∗ kvP 3 1 fullShare (kvAll m) ∗ kvP 3 2 fullShare (kvAll m) ∗ kvP 3 3 fullShare (kvAll m) ∗ xP 3 fx ∗ wqP 3 fq ∗ woP 3 fo ∗ outP 3 (outW 1 (row1 m fx fq fo) (outW 0 (row0 m fx fq fo) g)))
            -∗ Q ⟨⟩)
          -∗ wpc 3 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  rw [cc0_body_eq_skeleton]
  unfold cc0_body_skel
  iintro ⟨#He, HO, Hb, Ht0, Hd0, Ht10, Hu10, Ht12, Hu12, Hd13, Hd14, Hd15, Hd16, Ha0, Ha10, Ha12, Ha13, Ha14, Ha15, Ha16, Hx, Hq1, Ho, Hg⟩ Hq
  iapply (wpc_bind (F := F))
  iapply (part5_dev3 m K) $$ [HO Hb Ht0 Hd0 Ha0]
  · isplitr; · iexact He
    isplitl [HO]; · iexact HO
    isplitl [Hb]; · iexact Hb
    isplitl [Ht0]; · iexact Ht0
    isplitl [Hd0]; · iexact Hd0
    iexact Ha0
  iintro ⟨HO, Ha0, Hb2⟩
  beta_reduce
  ihave Hb2 := (Entails.of_eq (barP_three 2)) $$ Hb2
  icases Hb2 with ⟨Hn1, Hn3⟩
  iapply (wpc_bind (F := F))
  iapply (part6_other m K 3 (by decide) _ fx fq) $$ [Hx Hq1]
  · isplitr; · iexact He
    isplitl [Hx]; · iexact Hx
    iexact Hq1
  iintro ⟨Hx, Hq1⟩
  beta_reduce
  iapply (wpc_bind (F := F))
  iapply (part7_dev3 m K (place 3) _ _ fo) $$ [HO Ho Hd14 Ha14 Hd13 Ha13 Hn1 Ht10 Hu10]
  · isplitr; · iexact He
    isplitl [HO]; · iexact HO
    isplitl [Ho]; · iexact Ho
    isplitl [Hd14]; · iexact Hd14
    isplitl [Ha14]; · iexact Ha14
    isplitl [Hd13]; · iexact Hd13
    isplitl [Ha13]; · iexact Ha13
    isplitl [Hn1]; · iexact Hn1
    isplitl [Ht10]; · iexact Ht10
    iexact Hu10
  iintro ⟨HO, Ho, Ha14, Ha13, H1, H0, Hc10⟩
  beta_reduce
  iapply (wpc_bind (F := F))
  iapply (part8_other m K 3 fullShare fullShare.right _ (Scalar.extui (Scalar.cmpi .eq (place 3) 2#32)) (by decide)) $$ [H0 H1]
  · isplitr; · iexact He
    isplitl [H0]; · iexact H0
    iexact H1
  iintro ⟨H0, H1⟩
  beta_reduce
  iapply (wpc_bind (F := F))
  iapply (part9_spec m 3 fullShare fullShare.right _ _ _ _ _) $$ [H0 H1]
  · isplitl [H0]; · iexact H0
    iexact H1
  iintro ⟨H0, H1⟩
  beta_reduce
  iapply (wpc_bind (F := F))
  iapply (part10_spec m 3 fullShare fullShare.right _ _) $$ [H0 H1]
  · isplitl [H0]; · iexact H0
    iexact H1
  iintro ⟨H0, H1⟩
  beta_reduce
  iapply (wpc_bind (F := F))
  iapply (part11_spec 3 _ _ _ _ _ _ _ _ _ g) $$ [Hg]
  · iexact Hg
  iintro Hg
  beta_reduce
  iapply (wpc_bind (F := F))
  iapply (part12_dev3 m K (place 3) _ _ (by decide)) $$ [HO Hd16 Ha16 Hd15 Ha15 Hn3 Ht12 Hu12]
  · isplitr; · iexact He
    isplitl [HO]; · iexact HO
    isplitl [Hd16]; · iexact Hd16
    isplitl [Ha16]; · iexact Ha16
    isplitl [Hd15]; · iexact Hd15
    isplitl [Ha15]; · iexact Ha15
    isplitl [Hn3]; · iexact Hn3
    isplitl [Ht12]; · iexact Ht12
    iexact Hu12
  iintro ⟨HO, Ha16, Ha15, H3, H2, Hc12⟩
  beta_reduce
  iapply (wpc_bind (F := F))
  iapply (part13_spec m 3 fullShare fullShare.right _ _ _) $$ [H2 H3]
  · isplitl [H2]; · iexact H2
    iexact H3
  iintro ⟨H2, H3⟩
  beta_reduce
  iapply (wpc_bind (F := F))
  iapply (part14_spec m 3 fullShare fullShare.right _ _ _ _ _) $$ [H2 H3]
  · isplitl [H2]; · iexact H2
    iexact H3
  iintro ⟨H2, H3⟩
  beta_reduce
  iapply (wpc_bind (F := F))
  iapply (part15_spec m 3 fullShare fullShare.right _ _ _ _ _) $$ [H2 H3]
  · isplitl [H2]; · iexact H2
    iexact H3
  iintro ⟨H2, H3⟩
  beta_reduce
  iapply (wpc_bind (F := F))
  iapply (part16_spec 3 _ _ _ _ _ _ _ _ _) $$ [Hg]
  · iexact Hg
  iintro Hg
  beta_reduce
  rw [dif_neg (by decide), dif_neg (by decide), dif_pos (by decide)]
  simp only [Prog.lift, Prog.bind_op, Prog.bind_ret, Prog.pure_eq_ret]
  iapply (wp_waitK m K 3 10 [] 2048 3 (kvP 3 1 fullShare.left (kvAll m)) rfl rfl (by decide) rfl rfl (by decide)) $$ [Hc10 HO Ha10]
  · isplitr; · iexact He
    isplitl [Hc10]; · iexact Hc10
    isplitl [HO] <;> iassumption
  iintro ⟨HO, Ha10, Hl1⟩
  ihave H1 := (kv_whole 3 1 fullShare (kvAll m)) $$ [Hl1 H1]
  · isplitl [Hl1]; · iexact Hl1
    iexact H1
  iapply (wp_waitK m K 3 12 [] 2048 3 (kvP 3 3 fullShare.left (kvAll m)) rfl rfl (by decide) rfl rfl (by decide)) $$ [Hc12 HO Ha12]
  · isplitr; · iexact He
    isplitl [Hc12]; · iexact Hc12
    isplitl [HO] <;> iassumption
  iintro ⟨HO, Ha12, Hl3⟩
  ihave H3 := (kv_whole 3 3 fullShare (kvAll m)) $$ [Hl3 H3]
  · isplitl [Hl3]; · iexact Hl3
    iexact H3
  iapply (wpc_ret (F := F))
  iapply Hq
  isplitl [HO]; · iexact HO
  isplitl [Ha0]; · iexact Ha0
  isplitl [Ha10]; · iexact Ha10
  isplitl [Ha12]; · iexact Ha12
  isplitl [Ha13]; · iexact Ha13
  isplitl [Ha14]; · iexact Ha14
  isplitl [Ha15]; · iexact Ha15
  isplitl [Ha16]; · iexact Ha16
  isplitl [H0]; · iexact H0
  isplitl [H1]; · iexact H1
  isplitl [H2]; · iexact H2
  isplitl [H3]; · iexact H3
  isplitl [Hx]; · iexact Hx
  isplitl [Hq1]; · iexact Hq1
  isplitl [Ho]; · iexact Ho
  iexact Hg

end Cert.KernelIdeal.Hand
-- ==== Proof.Core.lean ====
module

public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffer and its windows -/

theorem kvR_union : (Finset.univ : Finset S2x2x128x256.Idx) = Finset.univ.biUnion fun j : Fin 4 => (kvR j).set := by
  ext i
  simp only [Finset.mem_univ, Finset.mem_biUnion, true_and, true_iff]
  exact ⟨winOf i, mem_kvR i⟩

/-- The buffer whole. -/
abbrev kvBuf (c : Dev nD) (f : S2x2x128x256.Idx → F .bf16) : sProp 𝕄 := ((c : Thread nD τ).loc cc0_scratch0) ↦{fullShare} f

/-- The buffer is its four windows. -/
theorem kvBuf_eq (c : Dev nD) (f : S2x2x128x256.Idx → F .bf16) :
    (kvBuf c f : sProp 𝕄) = iprop(kvP c 0 fullShare f ∗ kvP c 1 fullShare f ∗ kvP c 2 fullShare f ∗ kvP c 3 fullShare f) := by
  have h : (kvBuf c f : sProp 𝕄) = (((c : Thread nD τ).loc cc0_scratch0) ↦[Finset.univ.biUnion fun j : Fin 4 => (kvR j).set]{fullShare} f) :=
    congrArg (fun S => (((c : Thread nD τ).loc cc0_scratch0) ↦[S]{fullShare} f : sProp 𝕄)) kvR_union
  have hd : ∀ i ∈ (Finset.univ : Finset (Fin 4)), ∀ j ∈ (Finset.univ : Finset (Fin 4)), i ≠ j → Disjoint (kvR i).set (kvR j).set := fun i _ j _ hij => kvR_disjoint i j hij
  have h2 : (((c : Thread nD τ).loc cc0_scratch0) ↦[Finset.univ.biUnion fun j : Fin 4 => (kvR j).set]{fullShare} f : sProp 𝕄) = bigSep Finset.univ fun j : Fin 4 => kvP c j fullShare f :=
    pointsTo_biUnion (ℓ := (c : Thread nD τ).loc cc0_scratch0) Finset.univ (fun j : Fin 4 => (kvR j).set) hd
  refine h.trans (h2.trans ?_)
  rw [bigSep_univ_eq_bigSepL [0, 1, 2, 3] (by decide) (by decide)]
  rfl

theorem kvBuf_windows (c : Dev nD) (f : S2x2x128x256.Idx → F .bf16) :
    (kvBuf c f : sProp 𝕄) ⊢ iprop(kvAny c 0 ∗ kvAny c 1 ∗ kvAny c 2 ∗ kvAny c 3) := by
  rw [kvBuf_eq]
  iintro ⟨H0, H1, H2, H3⟩
  isplitl [H0]; · iexists f; iexact H0
  isplitl [H1]; · iexists f; iexact H1
  isplitl [H2]; · iexists f; iexact H2
  iexists f; iexact H3

/-! ## The result -/

/-- The place of an element of the result in its row. -/
def inRow (i : S2x128x512.Idx) : S1x128x512.Idx := fun a => match a with
  | ⟨0, _⟩ => ⟨0, Nat.one_pos⟩
  | ⟨1, _⟩ => i (1 : Fin 3)
  | ⟨2, _⟩ => i (2 : Fin 3)

theorem oR_emb (b : Fin 2) (i : S2x128x512.Idx) (h : (i (0 : Fin 3)).val = b.val) : (oR b).emb (inRow i) = i := by
  funext a
  match a with
  | ⟨0, _⟩ => exact Fin.ext (by show b.val + 1 * 0 = (i (0 : Fin 3)).val; omega)
  | ⟨1, _⟩ => exact Fin.ext (by show 0 + 1 * (i (1 : Fin 3)).val = (i (1 : Fin 3)).val; omega)
  | ⟨2, _⟩ => exact Fin.ext (by show 0 + 1 * (i (2 : Fin 3)).val = (i (2 : Fin 3)).val; omega)

theorem outW_on (b : Fin 2) (w : FVec F S1x128x512 .f32) (g : S2x128x512.Idx → F .f32) (i : S2x128x512.Idx) (h : (i (0 : Fin 3)).val = b.val) :
    outW b w g i = w (inRow i) := by
  conv_lhs => rw [← oR_emb b i h]
  exact View.write_emb_of_mem (v := (Memref.whole cc0_stg3_0).access (oR b)) (Val := Elt F) g w (Finset.mem_univ (inRow i))

theorem outW_off (b : Fin 2) (w : FVec F S1x128x512 .f32) (g : S2x128x512.Idx → F .f32) (i : S2x128x512.Idx) (h : (i (0 : Fin 3)).val ≠ b.val) :
    outW b w g i = g i := by
  refine View.write_of_not_mem _ _ _ fun hi => h ?_
  obtain ⟨x, -, rfl⟩ := Finset.mem_map.mp hi
  have h0 : (x (0 : Fin 3)).val < 1 := (x (0 : Fin 3)).isLt
  show b.val + 1 * (x (0 : Fin 3)).val = b.val
  omega

/-- The result, from its two rows. -/
def outOf (w₀ w₁ : FVec F S1x128x512 .f32) : S2x128x512.Idx → F .f32 := fun i => if (i (0 : Fin 3)).val = 0 then w₀ (inRow i) else w₁ (inRow i)

theorem outW_both (w₀ w₁ : FVec F S1x128x512 .f32) (g : S2x128x512.Idx → F .f32) : outW 1 w₁ (outW 0 w₀ g) = outOf w₀ w₁ := by
  funext i
  have h2 : (i (0 : Fin 3)).val < 2 := (i (0 : Fin 3)).isLt
  unfold outOf
  by_cases h : (i (0 : Fin 3)).val = 0
  · rw [if_pos h, outW_off 1 _ _ i (by rw [h]; decide), outW_on 0 _ _ i h]
  · rw [if_neg h, outW_on 1 _ _ i (by show (i (0 : Fin 3)).val = 1; omega)]

/-! ## Positions, rights and dues, listed -/

theorem listed {I : Type} [Fintype I] [DecidableEq I] (l : List I) (hl : l.Nodup) (Φ : I → sProp 𝕄) :
    bigSep Finset.univ Φ = iprop(bigSepL l Φ ∗ bigSep (Finset.univ \ l.toFinset) Φ) := by
  rw [bigSep_sdiff_split (Finset.subset_univ l.toFinset), bigSep_eq_bigSepL_of_eq l rfl hl]
  rfl

theorem picked {I : Type} [Fintype I] [DecidableEq I] (l : List I) (hl : l.Nodup) (Φ : I → sProp 𝕄) :
    bigSep Finset.univ Φ ⊢ bigSepL l Φ := by
  rw [← bigSep_eq_bigSepL_of_eq l rfl hl]
  exact bigSep_subset (Finset.subset_univ _)

/-- Every cell of a device, not yet waited for. -/
def pos (c : Dev nD) : sProp 𝕄 := bigSep Finset.univ fun k : Fin 19 => at0 c k

/-- Every right of a device to pay. -/
def toks (c : Dev nD) : sProp 𝕄 := bigSep Finset.univ fun ck : Dev nD × Fin 19 => tok c ck.1 ck.2

/-- What every device owes at launch. -/
def O₀ (c : Dev nD) : CellTallies nD τ sig Unit := owe (owed c)

/-- What is due on cell `k` of device `c` at launch. -/
def crd (c : Dev nD) (k : Fin 19) : ℕ :=
  if k = 0 then (if c = 0 then 2 else if c = 2 then 0 else 1) else if 13 ≤ k.val ∧ k.val ≤ 16 ∧ c ≠ 0 then 2048 else 0

theorem crd_eq : ∀ (c : Dev nD) (k : Fin 19), (∑ d : Dev nD, (owed d).count (c, k)) * amtK k = crd c k := by decide

theorem owe_at : ∀ (l : List (Dev nD × Fin 19)) (c : Dev nD) (k : Fin 19), owe l (kcell c k) () = l.count (c, k) * amtK k
  | [], c, k => by rw [List.count_nil, Nat.zero_mul]; rfl
  | x :: l, c, k => by
    unfold owe
    rw [Pi.add_apply, Finsupp.add_apply, owe_at l c k, tallyAt_apply, List.count_cons]
    by_cases h : x = (c, k)
    · subst h
      rw [if_pos ⟨rfl, rfl⟩, beq_self_eq_true, if_pos rfl, Nat.add_mul, Nat.one_mul]
    · rw [if_neg (fun h' => h (kcell_inj (a₁ := x) (a₂ := (c, k)) h'.1.symm)), beq_false_of_ne h]
      simp only [Bool.false_eq_true, if_false, Nat.add_zero]

theorem launch_k (c : Dev nD) (k : Fin 19) :
    tallyOn (kcell c k) (launchCredit (Pipeline.owing O₀) 0 (kcell c k)) = (tallyAt (kcell c k) () (crd c k) : CellTallies nD τ sig Unit) := by
  unfold tallyAt; refine congrArg _ (Finsupp.ext fun u => ?_); cases u
  rw [Pipeline.launchCredit_owing, Finsupp.single_eq_same, ← crd_eq, Finset.sum_mul]
  exact Finset.sum_congr rfl fun d _ => owe_at (owed d) c k

theorem kSem_inj : Function.Injective kSem := fun a b h => Option.some.inj ((kOf_kSem a).symm.trans ((congrArg kOf h).trans (kOf_kSem b)))

theorem creds (c : Dev nD) : (Pipeline.launchCred O₀ c : sProp 𝕄) ⊢ bigSep Finset.univ fun k : Fin 19 => due c k (crd c k) := by
  have h : (bigSep (Finset.univ.map ⟨kSem, kSem_inj⟩) fun sm : SemLoc sig =>
      (cred (tallyOn ((c : Thread nD τ), sm) (launchCredit (Pipeline.owing O₀) 0 ((c : Thread nD τ), sm))) : sProp 𝕄))
      = bigSep Finset.univ fun k : Fin 19 => due c k (crd c k) := by
    rw [bigSep_map]
    exact bigSep_congr fun k _ => congrArg cred (launch_k c k)
  rw [← h]
  exact bigSep_subset (Finset.subset_univ _)

/-! ## Closing the cells -/

theorem close_done (K : Dev nD × Fin 19 → ℕ) (c : Dev nD) (k : Fin 19) : iprop(env m K ∗ at1 c k) ⊢ |={Set.univ}=> semVal (kcell c k) 0 := by
  have h : iprop(cellInv ER (Rd m) (K (c, k)) (kcell c k) ∗ at1 c k) ⊢ |={Set.univ}=> semVal (kcell c k) 0 :=
    Rounds.cell_close ER (Rd m) (Set.mem_univ _) (fun h => h) (R := 1) (duties_later m _)
  refine (sep_mono_left (env_inv m K c k)).trans h

theorem close_idle (K : Dev nD × Fin 19 → ℕ) (c : Dev nD) (k : Fin 19) (hk : dutyK c k = ∅) : iprop(env m K ∗ at0 c k) ⊢ |={Set.univ}=> semVal (kcell c k) 0 := by
  have h : iprop(cellInv ER (Rd m) (K (c, k)) (kcell c k) ∗ at0 c k) ⊢ |={Set.univ}=> semVal (kcell c k) 0 :=
    Rounds.cell_close ER (Rd m) (Set.mem_univ _) (fun h => h) (R := 0) (fun r _ => by
      rcases Nat.eq_zero_or_pos r with rfl | hr
      · rw [duties_k, hk]
      · exact duties_later m _ r hr)
  refine (sep_mono_left (env_inv m K c k)).trans h

theorem with_env {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- Every counter of the kernel's is at zero in the end. -/
theorem close_all (K : Dev nD × Fin 19 → ℕ) (c : Dev nD) (l : List (Fin 19)) (hl : l.Nodup) (hk : ∀ k : Fin 19, k ∉ l → dutyK c k = ∅) :
    iprop(env m K ∗ bigSepL l (fun k => at1 c k) ∗ bigSep (Finset.univ \ l.toFinset) (fun k => at0 c k))
      ⊢ |={Set.univ}=> bigSep Finset.univ fun k : Fin 19 => semVal (kcell c k) 0 := by
  have h1 : iprop(env m K ∗ bigSepL l (fun k => at1 c k)) ⊢ |={Set.univ}=> bigSepL l fun k => semVal (kcell c k) 0 := by
    rw [← bigSep_eq_bigSepL_of_eq l rfl hl, ← bigSep_eq_bigSepL_of_eq l rfl hl]
    exact (with_env fun k _ => close_done m K c k).trans (bigSep_fupd _ _)
  have h2 : iprop(env m K ∗ bigSep (Finset.univ \ l.toFinset) (fun k => at0 c k)) ⊢ |={Set.univ}=> bigSep (Finset.univ \ l.toFinset) fun k => semVal (kcell c k) 0 :=
    (with_env fun k hk' => close_idle m K c k (hk k fun h => (Finset.mem_sdiff.mp hk').2 (List.mem_toFinset.mpr h))).trans (bigSep_fupd _ _)
  rw [listed l hl]
  iintro ⟨#He, H1, H2⟩
  imod h1 $$ [H1] with H1
  · isplitr; · iexact He
    iexact H1
  imod h2 $$ [H2] with H2
  · isplitr; · iexact He
    iexact H2
  imodintro
  isplitl [H1]; · iexact H1
  iexact H2

/-! ## A device from its launch state to its end -/

/-- What a device holds when its body starts. -/
def coreIn (K : Dev nD × Fin 19 → ℕ) (c : Dev nD) (fx : S2x128x512.Idx → F .f32) (fq : S512x256.Idx → F .f32) (fo : S256x512.Idx → F .f32) (g : S2x128x512.Idx → F .f32) : sProp 𝕄 :=
  iprop(env m K ∗ owesE c (owed c) ∗ pos c ∗ toks c ∗ Pipeline.launchCred O₀ c
    ∗ (∃ f, kvBuf c f) ∗ (∃ f, s1P c f) ∗ (∃ f, s2P c f) ∗ kMem m c ∗ vMem m c ∗ xP c fx ∗ wqP c fq ∗ woP c fo ∗ outP c g)

/-- What it holds when its body ends. -/
def coreOut (c : Dev nD) (fx : S2x128x512.Idx → F .f32) (fq : S512x256.Idx → F .f32) (fo : S256x512.Idx → F .f32) : sProp 𝕄 :=
  iprop(owesE c [] ∗ (bigSep Finset.univ fun k : Fin 19 => semVal (kcell c k) 0)
    ∗ (∃ f, kvBuf c f) ∗ (∃ f, s1P c f) ∗ (∃ f, s2P c f) ∗ kMem m c ∗ vMem m c ∗ xP c fx ∗ wqP c fq ∗ woP c fo
    ∗ outP c (outOf (row0 m fx fq fo) (row1 m fx fq fo)))

theorem toks_dev0 : (toks 0 : sProp 𝕄) ⊢ iprop(tok 0 0 17 ∗ tok 0 0 18 ∗ tok 0 0 1 ∗ tok 0 1 13 ∗ tok 0 0 2 ∗ tok 0 3 14 ∗ tok 0 0 3 ∗ tok 0 1 14 ∗ tok 0 0 4 ∗ tok 0 3 13 ∗ tok 0 0 5 ∗ tok 0 1 15 ∗ tok 0 0 6 ∗ tok 0 3 16 ∗ tok 0 0 7 ∗ tok 0 1 16 ∗ tok 0 0 8 ∗ tok 0 3 15) :=
  picked [((0 : Dev nD), (17 : Fin 19)), ((0 : Dev nD), (18 : Fin 19)), ((0 : Dev nD), (1 : Fin 19)), ((1 : Dev nD), (13 : Fin 19)), ((0 : Dev nD), (2 : Fin 19)), ((3 : Dev nD), (14 : Fin 19)), ((0 : Dev nD), (3 : Fin 19)), ((1 : Dev nD), (14 : Fin 19)), ((0 : Dev nD), (4 : Fin 19)), ((3 : Dev nD), (13 : Fin 19)), ((0 : Dev nD), (5 : Fin 19)), ((1 : Dev nD), (15 : Fin 19)), ((0 : Dev nD), (6 : Fin 19)), ((3 : Dev nD), (16 : Fin 19)), ((0 : Dev nD), (7 : Fin 19)), ((1 : Dev nD), (16 : Fin 19)), ((0 : Dev nD), (8 : Fin 19)), ((3 : Dev nD), (15 : Fin 19))] (by decide) _

theorem creds_dev0 : (Pipeline.launchCred O₀ 0 : sProp 𝕄) ⊢ iprop(due 0 0 2) := by
  have h : (bigSep Finset.univ fun k : Fin 19 => due 0 k (crd 0 k) : sProp 𝕄) ⊢ iprop(due 0 0 (crd 0 0)) :=
    picked [(0 : Fin 19)] (by decide) _
  rw [show crd 0 0 = 2 by decide] at h
  exact (creds 0).trans h

/-- Device 0, from its launch state to its end. -/
theorem core_dev0 (K : Dev nD × Fin 19 → ℕ) (fx : S2x128x512.Idx → F .f32) (fq : S512x256.Idx → F .f32) (fo : S256x512.Idx → F .f32) (g : S2x128x512.Idx → F .f32) :
    coreIn m K 0 fx fq fo g ⊢ wpc 0 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => iprop(|={Set.univ}=> coreOut m 0 fx fq fo)) := by
  have hp : (pos 0 : sProp 𝕄) = iprop((at0 0 0 ∗ at0 0 1 ∗ at0 0 2 ∗ at0 0 3 ∗ at0 0 4 ∗ at0 0 5 ∗ at0 0 6 ∗ at0 0 7 ∗ at0 0 8 ∗ at0 0 17 ∗ at0 0 18) ∗ bigSep (Finset.univ \ [(0 : Fin 19), (1 : Fin 19), (2 : Fin 19), (3 : Fin 19), (4 : Fin 19), (5 : Fin 19), (6 : Fin 19), (7 : Fin 19), (8 : Fin 19), (17 : Fin 19), (18 : Fin 19)].toFinset) (fun k : Fin 19 => at0 0 k)) :=
    listed [(0 : Fin 19), (1 : Fin 19), (2 : Fin 19), (3 : Fin 19), (4 : Fin 19), (5 : Fin 19), (6 : Fin 19), (7 : Fin 19), (8 : Fin 19), (17 : Fin 19), (18 : Fin 19)] (by decide) _
  unfold coreIn
  iintro ⟨#He, HO, Hp, Ht, Hc, ⟨%f0, Hf⟩, ⟨%g₁, Hs1⟩, ⟨%g₂, Hs2⟩, Hk, Hv, Hx, Hq1, Ho, Hg⟩
  ihave Hp := (Entails.of_eq hp) $$ Hp
  icases Hp with ⟨⟨Ha0, Ha1, Ha2, Ha3, Ha4, Ha5, Ha6, Ha7, Ha8, Ha17, Ha18⟩, Hrest⟩
  ihave Ht := (toks_dev0 (F := F)) $$ Ht
  icases Ht with ⟨Ht17, Ht18, Ht0, Hu0, Ht1, Hu1, Ht2, Hu2, Ht3, Hu3, Ht4, Hu4, Ht5, Hu5, Ht6, Hu6, Ht7, Hu7⟩
  ihave Hd := (creds_dev0 (F := F)) $$ Hc
  ihave Hb := ((kvBuf_windows 0 f0).trans (Entails.of_eq (barP_zero 0).symm)) $$ Hf
  iapply (body_dev0 m K g₁ g₂ fx fq fo g) $$ [HO Hs1 Hs2 Hk Hv Hb Ht17 Ht18 Hd Ht0 Hu0 Ht1 Hu1 Ht2 Hu2 Ht3 Hu3 Ht4 Hu4 Ht5 Hu5 Ht6 Hu6 Ht7 Hu7 Ha0 Ha1 Ha2 Ha3 Ha4 Ha5 Ha6 Ha7 Ha8 Ha17 Ha18 Hx Hq1 Ho Hg]
  · isplitr; · iexact He
    isplitl [HO]; · iexact HO
    isplitl [Hs1]; · iexact Hs1
    isplitl [Hs2]; · iexact Hs2
    isplitl [Hk]; · iexact Hk
    isplitl [Hv]; · iexact Hv
    isplitl [Hb]; · iexact Hb
    isplitl [Ht17]; · iexact Ht17
    isplitl [Ht18]; · iexact Ht18
    isplitl [Hd]; · iexact Hd
    isplitl [Ht0]; · iexact Ht0
    isplitl [Hu0]; · iexact Hu0
    isplitl [Ht1]; · iexact Ht1
    isplitl [Hu1]; · iexact Hu1
    isplitl [Ht2]; · iexact Ht2
    isplitl [Hu2]; · iexact Hu2
    isplitl [Ht3]; · iexact Ht3
    isplitl [Hu3]; · iexact Hu3
    isplitl [Ht4]; · iexact Ht4
    isplitl [Hu4]; · iexact Hu4
    isplitl [Ht5]; · iexact Ht5
    isplitl [Hu5]; · iexact Hu5
    isplitl [Ht6]; · iexact Ht6
    isplitl [Hu6]; · iexact Hu6
    isplitl [Ht7]; · iexact Ht7
    isplitl [Hu7]; · iexact Hu7
    isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha17]; · iexact Ha17
    isplitl [Ha18]; · iexact Ha18
    isplitl [Hx]; · iexact Hx
    isplitl [Hq1]; · iexact Hq1
    isplitl [Ho]; · iexact Ho
    iexact Hg
  iintro ⟨HO, Ha0, Ha1, Ha2, Ha3, Ha4, Ha5, Ha6, Ha7, Ha8, Ha17, Ha18, H0, H1, H2, H3, Hs1, Hs2, Hk, Hv, Hx, Hq1, Ho, Hg⟩
  ihave Hl := (show iprop(at1 0 0 ∗ at1 0 1 ∗ at1 0 2 ∗ at1 0 3 ∗ at1 0 4 ∗ at1 0 5 ∗ at1 0 6 ∗ at1 0 7 ∗ at1 0 8 ∗ at1 0 17 ∗ at1 0 18) ⊢ (bigSepL [(0 : Fin 19), (1 : Fin 19), (2 : Fin 19), (3 : Fin 19), (4 : Fin 19), (5 : Fin 19), (6 : Fin 19), (7 : Fin 19), (8 : Fin 19), (17 : Fin 19), (18 : Fin 19)] (fun k => at1 0 k) : sProp 𝕄) from Entails.of_eq rfl) $$ [Ha0 Ha1 Ha2 Ha3 Ha4 Ha5 Ha6 Ha7 Ha8 Ha17 Ha18]
  · isplitl [Ha0]; · iexact Ha0
    isplitl [Ha1]; · iexact Ha1
    isplitl [Ha2]; · iexact Ha2
    isplitl [Ha3]; · iexact Ha3
    isplitl [Ha4]; · iexact Ha4
    isplitl [Ha5]; · iexact Ha5
    isplitl [Ha6]; · iexact Ha6
    isplitl [Ha7]; · iexact Ha7
    isplitl [Ha8]; · iexact Ha8
    isplitl [Ha17]; · iexact Ha17
    iexact Ha18
  imod (close_all m K 0 [(0 : Fin 19), (1 : Fin 19), (2 : Fin 19), (3 : Fin 19), (4 : Fin 19), (5 : Fin 19), (6 : Fin 19), (7 : Fin 19), (8 : Fin 19), (17 : Fin 19), (18 : Fin 19)] (by decide) (by decide)) $$ [Hl Hrest] with Hz
  · isplitr; · iexact He
    isplitl [Hl]; · iexact Hl
    iexact Hrest
  imodintro
  unfold coreOut
  isplitl [HO]; · iexact HO
  isplitl [Hz]; · iexact Hz
  isplitl [H0 H1 H2 H3]
  · iexists (kvAll m)
    iapply (Entails.of_eq (kvBuf_eq 0 (kvAll m)).symm)
    isplitl [H0]; · iexact H0
    isplitl [H1]; · iexact H1
    isplitl [H2]; · iexact H2
    iexact H3
  isplitl [Hs1]; · iexists _; iexact Hs1
  isplitl [Hs2]; · iexists _; iexact Hs2
  isplitl [Hk]; · iexact Hk
  isplitl [Hv]; · iexact Hv
  isplitl [Hx]; · iexact Hx
  isplitl [Hq1]; · iexact Hq1
  isplitl [Ho]; · iexact Ho
  rw [← outW_both (row0 m fx fq fo) (row1 m fx fq fo) g]
  iexact Hg

theorem toks_dev1 : (toks 1 : sProp 𝕄) ⊢ iprop(tok 1 0 0 ∗ tok 1 1 9 ∗ tok 1 2 13 ∗ tok 1 1 11 ∗ tok 1 2 15) :=
  picked [((0 : Dev nD), (0 : Fin 19)), ((1 : Dev nD), (9 : Fin 19)), ((2 : Dev nD), (13 : Fin 19)), ((1 : Dev nD), (11 : Fin 19)), ((2 : Dev nD), (15 : Fin 19))] (by decide) _

theorem creds_dev1 : (Pipeline.launchCred O₀ 1 : sProp 𝕄) ⊢ iprop(due 1 0 1 ∗ due 1 13 2048 ∗ due 1 14 2048 ∗ due 1 15 2048 ∗ due 1 16 2048) := by
  have h : (bigSep Finset.univ fun k : Fin 19 => due 1 k (crd 1 k) : sProp 𝕄) ⊢ iprop(due 1 0 (crd 1 0) ∗ due 1 13 (crd 1 13) ∗ due 1 14 (crd 1 14) ∗ due 1 15 (crd 1 15) ∗ due 1 16 (crd 1 16)) :=
    picked [(0 : Fin 19), (13 : Fin 19), (14 : Fin 19), (15 : Fin 19), (16 : Fin 19)] (by decide) _
  rw [show crd 1 0 = 1 by decide, show crd 1 13 = 2048 by decide, show crd 1 14 = 2048 by decide, show crd 1 15 = 2048 by decide, show crd 1 16 = 2048 by decide] at h
  exact (creds 1).trans h

/-- Device 1, from its launch state to its end. -/
theorem core_dev1 (K : Dev nD × Fin 19 → ℕ) (fx : S2x128x512.Idx → F .f32) (fq : S512x256.Idx → F .f32) (fo : S256x512.Idx → F .f32) (g : S2x128x512.Idx → F .f32) :
    coreIn m K 1 fx fq fo g ⊢ wpc 1 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => iprop(|={Set.univ}=> coreOut m 1 fx fq fo)) := by
  have hp : (pos 1 : sProp 𝕄) = iprop((at0 1 0 ∗ at0 1 9 ∗ at0 1 11 ∗ at0 1 13 ∗ at0 1 14 ∗ at0 1 15 ∗ at0 1 16) ∗ bigSep (Finset.univ \ [(0 : Fin 19), (9 : Fin 19), (11 : Fin 19), (13 : Fin 19), (14 : Fin 19), (15 : Fin 19), (16 : Fin 19)].toFinset) (fun k : Fin 19 => at0 1 k)) :=
    listed [(0 : Fin 19), (9 : Fin 19), (11 : Fin 19), (13 : Fin 19), (14 : Fin 19), (15 : Fin 19), (16 : Fin 19)] (by decide) _
  unfold coreIn
  iintro ⟨#He, HO, Hp, Ht, Hc, ⟨%f0, Hf⟩, ⟨%g₁, Hs1⟩, ⟨%g₂, Hs2⟩, Hk, Hv, Hx, Hq1, Ho, Hg⟩
  ihave Hp := (Entails.of_eq hp) $$ Hp
  icases Hp with ⟨⟨Ha0, Ha9, Ha11, Ha13, Ha14, Ha15, Ha16⟩, Hrest⟩
  ihave Ht := (toks_dev1 (F := F)) $$ Ht
  icases Ht with ⟨Ht0, Ht9, Hu9, Ht11, Hu11⟩
  ihave Hc := (creds_dev1 (F := F)) $$ Hc
  icases Hc with ⟨Hd0, Hd13, Hd14, Hd15, Hd16⟩
  ihave Hb := ((kvBuf_windows 1 f0).trans (Entails.of_eq (barP_zero 1).symm)) $$ Hf
  iapply (body_dev1 m K fx fq fo g) $$ [HO Hb Ht0 Hd0 Ht9 Hu9 Ht11 Hu11 Hd13 Hd14 Hd15 Hd16 Ha0 Ha9 Ha11 Ha13 Ha14 Ha15 Ha16 Hx Hq1 Ho Hg]
  · isplitr; · iexact He
    isplitl [HO]; · iexact HO
    isplitl [Hb]; · iexact Hb
    isplitl [Ht0]; · iexact Ht0
    isplitl [Hd0]; · iexact Hd0
    isplitl [Ht9]; · iexact Ht9
    isplitl [Hu9]; · iexact Hu9
    isplitl [Ht11]; · iexact Ht11
    isplitl [Hu11]; · iexact Hu11
    isplitl [Hd13]; · iexact Hd13
    isplitl [Hd14]; · iexact Hd14
    isplitl [Hd15]; · iexact Hd15
    isplitl [Hd16]; · iexact Hd16
    isplitl [Ha0]; · iexact Ha0
    isplitl [Ha9]; · iexact Ha9
    isplitl [Ha11]; · iexact Ha11
    isplitl [Ha13]; · iexact Ha13
    isplitl [Ha14]; · iexact Ha14
    isplitl [Ha15]; · iexact Ha15
    isplitl [Ha16]; · iexact Ha16
    isplitl [Hx]; · iexact Hx
    isplitl [Hq1]; · iexact Hq1
    isplitl [Ho]; · iexact Ho
    iexact Hg
  iintro ⟨HO, Ha0, Ha9, Ha11, Ha13, Ha14, Ha15, Ha16, H0, H1, H2, H3, Hx, Hq1, Ho, Hg⟩
  ihave Hl := (show iprop(at1 1 0 ∗ at1 1 9 ∗ at1 1 11 ∗ at1 1 13 ∗ at1 1 14 ∗ at1 1 15 ∗ at1 1 16) ⊢ (bigSepL [(0 : Fin 19), (9 : Fin 19), (11 : Fin 19), (13 : Fin 19), (14 : Fin 19), (15 : Fin 19), (16 : Fin 19)] (fun k => at1 1 k) : sProp 𝕄) from Entails.of_eq rfl) $$ [Ha0 Ha9 Ha11 Ha13 Ha14 Ha15 Ha16]
  · isplitl [Ha0]; · iexact Ha0
    isplitl [Ha9]; · iexact Ha9
    isplitl [Ha11]; · iexact Ha11
    isplitl [Ha13]; · iexact Ha13
    isplitl [Ha14]; · iexact Ha14
    isplitl [Ha15]; · iexact Ha15
    iexact Ha16
  imod (close_all m K 1 [(0 : Fin 19), (9 : Fin 19), (11 : Fin 19), (13 : Fin 19), (14 : Fin 19), (15 : Fin 19), (16 : Fin 19)] (by decide) (by decide)) $$ [Hl Hrest] with Hz
  · isplitr; · iexact He
    isplitl [Hl]; · iexact Hl
    iexact Hrest
  imodintro
  unfold coreOut
  isplitl [HO]; · iexact HO
  isplitl [Hz]; · iexact Hz
  isplitl [H0 H1 H2 H3]
  · iexists (kvAll m)
    iapply (Entails.of_eq (kvBuf_eq 1 (kvAll m)).symm)
    isplitl [H0]; · iexact H0
    isplitl [H1]; · iexact H1
    isplitl [H2]; · iexact H2
    iexact H3
  isplitl [Hs1]; · iexists _; iexact Hs1
  isplitl [Hs2]; · iexists _; iexact Hs2
  isplitl [Hk]; · iexact Hk
  isplitl [Hv]; · iexact Hv
  isplitl [Hx]; · iexact Hx
  isplitl [Hq1]; · iexact Hq1
  isplitl [Ho]; · iexact Ho
  rw [← outW_both (row0 m fx fq fo) (row1 m fx fq fo) g]
  iexact Hg

theorem toks_dev2 : (toks 2 : sProp 𝕄) ⊢ iprop(tok 2 1 0 ∗ tok 2 3 0) :=
  picked [((1 : Dev nD), (0 : Fin 19)), ((3 : Dev nD), (0 : Fin 19))] (by decide) _

theorem creds_dev2 : (Pipeline.launchCred O₀ 2 : sProp 𝕄) ⊢ iprop(due 2 13 2048 ∗ due 2 14 2048 ∗ due 2 15 2048 ∗ due 2 16 2048) := by
  have h : (bigSep Finset.univ fun k : Fin 19 => due 2 k (crd 2 k) : sProp 𝕄) ⊢ iprop(due 2 13 (crd 2 13) ∗ due 2 14 (crd 2 14) ∗ due 2 15 (crd 2 15) ∗ due 2 16 (crd 2 16)) :=
    picked [(13 : Fin 19), (14 : Fin 19), (15 : Fin 19), (16 : Fin 19)] (by decide) _
  rw [show crd 2 13 = 2048 by decide, show crd 2 14 = 2048 by decide, show crd 2 15 = 2048 by decide, show crd 2 16 = 2048 by decide] at h
  exact (creds 2).trans h

/-- Device 2, from its launch state to its end. -/
theorem core_dev2 (K : Dev nD × Fin 19 → ℕ) (fx : S2x128x512.Idx → F .f32) (fq : S512x256.Idx → F .f32) (fo : S256x512.Idx → F .f32) (g : S2x128x512.Idx → F .f32) :
    coreIn m K 2 fx fq fo g ⊢ wpc 2 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => iprop(|={Set.univ}=> coreOut m 2 fx fq fo)) := by
  have hp : (pos 2 : sProp 𝕄) = iprop((at0 2 13 ∗ at0 2 14 ∗ at0 2 15 ∗ at0 2 16) ∗ bigSep (Finset.univ \ [(13 : Fin 19), (14 : Fin 19), (15 : Fin 19), (16 : Fin 19)].toFinset) (fun k : Fin 19 => at0 2 k)) :=
    listed [(13 : Fin 19), (14 : Fin 19), (15 : Fin 19), (16 : Fin 19)] (by decide) _
  unfold coreIn
  iintro ⟨#He, HO, Hp, Ht, Hc, ⟨%f0, Hf⟩, ⟨%g₁, Hs1⟩, ⟨%g₂, Hs2⟩, Hk, Hv, Hx, Hq1, Ho, Hg⟩
  ihave Hp := (Entails.of_eq hp) $$ Hp
  icases Hp with ⟨⟨Ha13, Ha14, Ha15, Ha16⟩, Hrest⟩
  ihave Ht := (toks_dev2 (F := F)) $$ Ht
  icases Ht with ⟨Ht1, Ht3⟩
  ihave Hc := (creds_dev2 (F := F)) $$ Hc
  icases Hc with ⟨Hd13, Hd14, Hd15, Hd16⟩
  ihave Hb := (kvBuf_windows 2 f0) $$ Hf
  icases Hb with ⟨H0, H1, H2, H3⟩
  ihave Hb1 := (Entails.of_eq (barP_one 2).symm) $$ [H0 H2]
  · isplitl [H0]; · iexact H0
    iexact H2
  ihave Hb3 := (Entails.of_eq (barP_three 2).symm) $$ [H1 H3]
  · isplitl [H1]; · iexact H1
    iexact H3
  iapply (body_dev2 m K fx fq fo g) $$ [HO Hb1 Hb3 Ht1 Ht3 Hd13 Hd14 Hd15 Hd16 Ha13 Ha14 Ha15 Ha16 Hx Hq1 Ho Hg]
  · isplitr; · iexact He
    isplitl [HO]; · iexact HO
    isplitl [Hb1]; · iexact Hb1
    isplitl [Hb3]; · iexact Hb3
    isplitl [Ht1]; · iexact Ht1
    isplitl [Ht3]; · iexact Ht3
    isplitl [Hd13]; · iexact Hd13
    isplitl [Hd14]; · iexact Hd14
    isplitl [Hd15]; · iexact Hd15
    isplitl [Hd16]; · iexact Hd16
    isplitl [Ha13]; · iexact Ha13
    isplitl [Ha14]; · iexact Ha14
    isplitl [Ha15]; · iexact Ha15
    isplitl [Ha16]; · iexact Ha16
    isplitl [Hx]; · iexact Hx
    isplitl [Hq1]; · iexact Hq1
    isplitl [Ho]; · iexact Ho
    iexact Hg
  iintro ⟨HO, Ha13, Ha14, Ha15, Ha16, H0, H1, H2, H3, Hx, Hq1, Ho, Hg⟩
  ihave Hl := (show iprop(at1 2 13 ∗ at1 2 14 ∗ at1 2 15 ∗ at1 2 16) ⊢ (bigSepL [(13 : Fin 19), (14 : Fin 19), (15 : Fin 19), (16 : Fin 19)] (fun k => at1 2 k) : sProp 𝕄) from Entails.of_eq rfl) $$ [Ha13 Ha14 Ha15 Ha16]
  · isplitl [Ha13]; · iexact Ha13
    isplitl [Ha14]; · iexact Ha14
    isplitl [Ha15]; · iexact Ha15
    iexact Ha16
  imod (close_all m K 2 [(13 : Fin 19), (14 : Fin 19), (15 : Fin 19), (16 : Fin 19)] (by decide) (by decide)) $$ [Hl Hrest] with Hz
  · isplitr; · iexact He
    isplitl [Hl]; · iexact Hl
    iexact Hrest
  imodintro
  unfold coreOut
  isplitl [HO]; · iexact HO
  isplitl [Hz]; · iexact Hz
  isplitl [H0 H1 H2 H3]
  · iexists (kvAll m)
    iapply (Entails.of_eq (kvBuf_eq 2 (kvAll m)).symm)
    isplitl [H0]; · iexact H0
    isplitl [H1]; · iexact H1
    isplitl [H2]; · iexact H2
    iexact H3
  isplitl [Hs1]; · iexists _; iexact Hs1
  isplitl [Hs2]; · iexists _; iexact Hs2
  isplitl [Hk]; · iexact Hk
  isplitl [Hv]; · iexact Hv
  isplitl [Hx]; · iexact Hx
  isplitl [Hq1]; · iexact Hq1
  isplitl [Ho]; · iexact Ho
  rw [← outW_both (row0 m fx fq fo) (row1 m fx fq fo) g]
  iexact Hg

theorem toks_dev3 : (toks 3 : sProp 𝕄) ⊢ iprop(tok 3 0 0 ∗ tok 3 3 10 ∗ tok 3 2 14 ∗ tok 3 3 12 ∗ tok 3 2 16) :=
  picked [((0 : Dev nD), (0 : Fin 19)), ((3 : Dev nD), (10 : Fin 19)), ((2 : Dev nD), (14 : Fin 19)), ((3 : Dev nD), (12 : Fin 19)), ((2 : Dev nD), (16 : Fin 19))] (by decide) _

theorem creds_dev3 : (Pipeline.launchCred O₀ 3 : sProp 𝕄) ⊢ iprop(due 3 0 1 ∗ due 3 13 2048 ∗ due 3 14 2048 ∗ due 3 15 2048 ∗ due 3 16 2048) := by
  have h : (bigSep Finset.univ fun k : Fin 19 => due 3 k (crd 3 k) : sProp 𝕄) ⊢ iprop(due 3 0 (crd 3 0) ∗ due 3 13 (crd 3 13) ∗ due 3 14 (crd 3 14) ∗ due 3 15 (crd 3 15) ∗ due 3 16 (crd 3 16)) :=
    picked [(0 : Fin 19), (13 : Fin 19), (14 : Fin 19), (15 : Fin 19), (16 : Fin 19)] (by decide) _
  rw [show crd 3 0 = 1 by decide, show crd 3 13 = 2048 by decide, show crd 3 14 = 2048 by decide, show crd 3 15 = 2048 by decide, show crd 3 16 = 2048 by decide] at h
  exact (creds 3).trans h

/-- Device 3, from its launch state to its end. -/
theorem core_dev3 (K : Dev nD × Fin 19 → ℕ) (fx : S2x128x512.Idx → F .f32) (fq : S512x256.Idx → F .f32) (fo : S256x512.Idx → F .f32) (g : S2x128x512.Idx → F .f32) :
    coreIn m K 3 fx fq fo g ⊢ wpc 3 (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => iprop(|={Set.univ}=> coreOut m 3 fx fq fo)) := by
  have hp : (pos 3 : sProp 𝕄) = iprop((at0 3 0 ∗ at0 3 10 ∗ at0 3 12 ∗ at0 3 13 ∗ at0 3 14 ∗ at0 3 15 ∗ at0 3 16) ∗ bigSep (Finset.univ \ [(0 : Fin 19), (10 : Fin 19), (12 : Fin 19), (13 : Fin 19), (14 : Fin 19), (15 : Fin 19), (16 : Fin 19)].toFinset) (fun k : Fin 19 => at0 3 k)) :=
    listed [(0 : Fin 19), (10 : Fin 19), (12 : Fin 19), (13 : Fin 19), (14 : Fin 19), (15 : Fin 19), (16 : Fin 19)] (by decide) _
  unfold coreIn
  iintro ⟨#He, HO, Hp, Ht, Hc, ⟨%f0, Hf⟩, ⟨%g₁, Hs1⟩, ⟨%g₂, Hs2⟩, Hk, Hv, Hx, Hq1, Ho, Hg⟩
  ihave Hp := (Entails.of_eq hp) $$ Hp
  icases Hp with ⟨⟨Ha0, Ha10, Ha12, Ha13, Ha14, Ha15, Ha16⟩, Hrest⟩
  ihave Ht := (toks_dev3 (F := F)) $$ Ht
  icases Ht with ⟨Ht0, Ht10, Hu10, Ht12, Hu12⟩
  ihave Hc := (creds_dev3 (F := F)) $$ Hc
  icases Hc with ⟨Hd0, Hd13, Hd14, Hd15, Hd16⟩
  ihave Hb := ((kvBuf_windows 3 f0).trans (Entails.of_eq (barP_zero 3).symm)) $$ Hf
  iapply (body_dev3 m K fx fq fo g) $$ [HO Hb Ht0 Hd0 Ht10 Hu10 Ht12 Hu12 Hd13 Hd14 Hd15 Hd16 Ha0 Ha10 Ha12 Ha13 Ha14 Ha15 Ha16 Hx Hq1 Ho Hg]
  · isplitr; · iexact He
    isplitl [HO]; · iexact HO
    isplitl [Hb]; · iexact Hb
    isplitl [Ht0]; · iexact Ht0
    isplitl [Hd0]; · iexact Hd0
    isplitl [Ht10]; · iexact Ht10
    isplitl [Hu10]; · iexact Hu10
    isplitl [Ht12]; · iexact Ht12
    isplitl [Hu12]; · iexact Hu12
    isplitl [Hd13]; · iexact Hd13
    isplitl [Hd14]; · iexact Hd14
    isplitl [Hd15]; · iexact Hd15
    isplitl [Hd16]; · iexact Hd16
    isplitl [Ha0]; · iexact Ha0
    isplitl [Ha10]; · iexact Ha10
    isplitl [Ha12]; · iexact Ha12
    isplitl [Ha13]; · iexact Ha13
    isplitl [Ha14]; · iexact Ha14
    isplitl [Ha15]; · iexact Ha15
    isplitl [Ha16]; · iexact Ha16
    isplitl [Hx]; · iexact Hx
    isplitl [Hq1]; · iexact Hq1
    isplitl [Ho]; · iexact Ho
    iexact Hg
  iintro ⟨HO, Ha0, Ha10, Ha12, Ha13, Ha14, Ha15, Ha16, H0, H1, H2, H3, Hx, Hq1, Ho, Hg⟩
  ihave Hl := (show iprop(at1 3 0 ∗ at1 3 10 ∗ at1 3 12 ∗ at1 3 13 ∗ at1 3 14 ∗ at1 3 15 ∗ at1 3 16) ⊢ (bigSepL [(0 : Fin 19), (10 : Fin 19), (12 : Fin 19), (13 : Fin 19), (14 : Fin 19), (15 : Fin 19), (16 : Fin 19)] (fun k => at1 3 k) : sProp 𝕄) from Entails.of_eq rfl) $$ [Ha0 Ha10 Ha12 Ha13 Ha14 Ha15 Ha16]
  · isplitl [Ha0]; · iexact Ha0
    isplitl [Ha10]; · iexact Ha10
    isplitl [Ha12]; · iexact Ha12
    isplitl [Ha13]; · iexact Ha13
    isplitl [Ha14]; · iexact Ha14
    isplitl [Ha15]; · iexact Ha15
    iexact Ha16
  imod (close_all m K 3 [(0 : Fin 19), (10 : Fin 19), (12 : Fin 19), (13 : Fin 19), (14 : Fin 19), (15 : Fin 19), (16 : Fin 19)] (by decide) (by decide)) $$ [Hl Hrest] with Hz
  · isplitr; · iexact He
    isplitl [Hl]; · iexact Hl
    iexact Hrest
  imodintro
  unfold coreOut
  isplitl [HO]; · iexact HO
  isplitl [Hz]; · iexact Hz
  isplitl [H0 H1 H2 H3]
  · iexists (kvAll m)
    iapply (Entails.of_eq (kvBuf_eq 3 (kvAll m)).symm)
    isplitl [H0]; · iexact H0
    isplitl [H1]; · iexact H1
    isplitl [H2]; · iexact H2
    iexact H3
  isplitl [Hs1]; · iexists _; iexact Hs1
  isplitl [Hs2]; · iexists _; iexact Hs2
  isplitl [Hk]; · iexact Hk
  isplitl [Hv]; · iexact Hv
  isplitl [Hx]; · iexact Hx
  isplitl [Hq1]; · iexact Hq1
  isplitl [Ho]; · iexact Ho
  rw [← outW_both (row0 m fx fq fo) (row1 m fx fq fo) g]
  iexact Hg

theorem dev_cases : ∀ c : Dev nD, c = 0 ∨ c = 1 ∨ c = 2 ∨ c = 3 := by decide

/-- Every device. -/
theorem core_dev (K : Dev nD × Fin 19 → ℕ) (c : Dev nD) (fx : S2x128x512.Idx → F .f32) (fq : S512x256.Idx → F .f32) (fo : S256x512.Idx → F .f32) (g : S2x128x512.Idx → F .f32) :
    coreIn m K c fx fq fo g ⊢ wpc c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => iprop(|={Set.univ}=> coreOut m c fx fq fo)) := by
  rcases dev_cases c with rfl | rfl | rfl | rfl
  · exact core_dev0 m K fx fq fo g
  · exact core_dev1 m K fx fq fo g
  · exact core_dev2 m K fx fq fo g
  · exact core_dev3 m K fx fq fo g

end Cert.KernelIdeal.Hand
-- ==== Proof.Launch.lean ====
module

public import proofs.«01_k».proof.Proof.Core
public import proofs.«01_k».proof.Proof.Gen.KernelIdeal.Frame
public import Idealize.ShloMosaic.Lib.Pipeline.CollectiveSegs
public import Idealize.ShloMosaic.Lib.Quiescent

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline calls it -/

abbrev t₀ : Fin cfg0.N := t0_0

/-- What device `c` stages in. -/
def xIn (c : Dev nD) : S2x128x512.Idx → F .f32 := iblk m c 0 t₀
def wqIn (c : Dev nD) : S512x256.Idx → F .f32 := iblk m c 1 t₀
def woIn (c : Dev nD) : S256x512.Idx → F .f32 := iblk m c 2 t₀

/-- What device `c` computes. -/
def outAt (c : Dev nD) : S2x128x512.Idx → F .f32 :=
  outOf (row0 m (xIn m c) (wqIn m c) (woIn m c)) (row1 m (xIn m c) (wqIn m c) (woIn m c))

/-- What device `c` starts with besides its buffers. -/
def start (c : Dev nD) : sProp 𝕄 :=
  iprop((∃ K, env m K ∗ pos c ∗ toks c) ∗ Pipeline.launchCred O₀ c ∗ kMem m c ∗ vMem m c)

/-- The three buffers the kernel keeps. -/
def bufs (c : Dev nD) : sProp 𝕄 := iprop((∃ f, kvBuf c f) ∗ (∃ f, s1P c f) ∗ (∃ f, s2P c f))

/-- Every counter of the kernel's at zero. -/
def zeros (c : Dev nD) : sProp 𝕄 := bigSep Finset.univ fun k : Fin 19 => semVal (kcell c k) 0

def Φ₀ (c : Dev nD) : sProp 𝕄 := iprop(start m c ∗ bufs c)
def Φ₁ (c : Dev nD) : sProp 𝕄 := iprop(zeros c ∗ kMem m c ∗ vMem m c ∗ bufs c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => wqIn m c
    | ⟨2, _⟩ => woIn m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-- Buffer `b` of device `c` whole, at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem fetch_0 (t : Fin cfg0.N) : (cfg0.win (0 : Fin 4)).fetch t = true := by rw [fin_N0 t]; rfl
theorem fetch_1 (t : Fin cfg0.N) : (cfg0.win (1 : Fin 4)).fetch t = true := by rw [fin_N0 t]; rfl
theorem fetch_2 (t : Fin cfg0.N) : (cfg0.win (2 : Fin 4)).fetch t = true := by rw [fin_N0 t]; rfl

theorem before_0 (c : Dev nD) (d) : (dats m ρ 0 c).before (0 : Fin 4) t₀ d = xIn m c := by
  unfold Dat.before; rw [if_pos (fetch_0 t₀)]; rfl
theorem before_1 (c : Dev nD) (d) : (dats m ρ 0 c).before (1 : Fin 4) t₀ d = wqIn m c := by
  unfold Dat.before; rw [if_pos (fetch_1 t₀)]; rfl
theorem before_2 (c : Dev nD) (d) : (dats m ρ 0 c).before (2 : Fin 4) t₀ d = woIn m c := by
  unfold Dat.before; rw [if_pos (fetch_2 t₀)]; rfl

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

set_option maxRecDepth 4000 in
def bodyPost (c : Dev nD) : sProp 𝕄 :=
  iprop(Φ₁ m c ∗ (dats m ρ 0 c).owesAt () t₀.succ
    ∗ stg c cc0_stg0_0 (xIn m c) ∗ stg c cc0_stg1_0 (wqIn m c) ∗ stg c cc0_stg2_0 (woIn m c) ∗ stg c cc0_stg3_0 (outAt m c))

theorem bodyPost_intro (c : Dev nD) : coreOut m c (xIn m c) (wqIn m c) (woIn m c) ⊢ bodyPost m ρ c := by
  unfold coreOut bodyPost Φ₁ bufs zeros owesE outAt Dat.owesAt Pipeline.owesWithin
  rw [show (dats m ρ 0 c).owed t₀.succ = 0 from rfl]
  iintro ⟨⟨%W, HO⟩, Hz, Hf, H1, H2, Hk, Hv, Hx, Hq1, Ho, Hg⟩
  isplitl [Hz Hf H1 H2 Hk Hv]
  · isplitl [Hz]; · iexact Hz
    isplitl [Hk]; · iexact Hk
    isplitl [Hv]; · iexact Hv
    isplitl [Hf]; · iexact Hf
    isplitl [H1]; · iexact H1
    iexact H2
  isplitl [HO]
  · iexists W
    isplitr; · ipureintro; exact fun _ _ => Or.inl trivial
    iexact HO
  isplitl [Hx]
  · iexists _; isplitr; · (ipureintro; rfl)
    iexact Hx
  isplitl [Hq1]
  · iexists _; isplitr; · (ipureintro; rfl)
    iexact Hq1
  isplitl [Ho]
  · iexists _; isplitr; · (ipureintro; rfl)
    iexact Ho
  iexists _; isplitr; · (ipureintro; rfl)
  iexact Hg

theorem wpc_end (c : Dev nD) (p : Prog (TpuEff nD τ sig (Elt F) Λ₀ .tc) PUnit) {A B : sProp 𝕄} (h : A ⊢ B) :
    wpc c p (fun _ => iprop(|={Set.univ}=> A)) ⊢ wpc c p (fun _ => B) :=
  (wp_mono _ _ _ fun _ => BI.fupd_mono h).trans (wp_fupd _ _ _ _ _)

theorem body_run (c : Dev nD) : bodyPre m ρ c ⊢ wpc c (cc0_body (F := F) (Memref.whole cc0_stg0_0) (Memref.isWhole_whole _) (Memref.whole cc0_stg1_0) (Memref.isWhole_whole _) (Memref.whole main_arg2) (Memref.isWhole_whole _) (Memref.whole main_arg3) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  unfold bodyPre Φ₀ start bufs Dat.owesAt Pipeline.owesWithin
  rw [show (dats m ρ 0 c).owed t₀.castSucc = owe (owed c) from rfl]
  simp only [before_0, before_1, before_2]
  iintro ⟨⟨⟨⟨%K, #He, Hp, Ht⟩, Hc, Hk, Hv⟩, Hf, H1, H2⟩, ⟨%W, %hW, HO⟩, ⟨%d0, %f0, %e0, Hx⟩, ⟨%d1, %f1, %e1, Hq1⟩, ⟨%d2, %f2, %e2, Ho⟩, ⟨%d3, %f3, %e3, Hg⟩⟩
  subst e0 e1 e2
  iapply (wpc_end c _ (bodyPost_intro m ρ c))
  iapply (core_dev m K c (xIn m c) (wqIn m c) (woIn m c) f3)
  unfold coreIn
  isplitr; · iexact He
  isplitl [HO]; · unfold owesE; iexists W; iexact HO
  isplitl [Hp]; · iexact Hp
  isplitl [Ht]; · iexact Ht
  isplitl [Hc]; · iexact Hc
  isplitl [Hf]; · iexact Hf
  isplitl [H1]; · iexact H1
  isplitl [H2]; · iexact H2
  isplitl [Hk]; · iexact Hk
  isplitl [Hv]; · iexact Hv
  isplitl [Hx]; · iexact Hx
  isplitl [Hq1]; · iexact Hq1
  isplitl [Ho]; · iexact Ho
  iexact Hg

set_option maxRecDepth 4000 in
/-- The library's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_buf]
  exact body_run m ρ c

/-! ## The launch -/

abbrev osem : Fin 18 → SemLoc sig := fun k => kSem k.succ

theorem ownSemFacts : Pipeline.OwnSemFacts cfg0.spec osem := by decide

theorem share_eq (c : Dev nD) (w : Fin cfg0.W) : (dats m ρ 0 c).share w = fullShare := by unfold Dat.share; split <;> rfl

/-- The kernel's cells, and a right to pay each for every device. -/
def hCells : Finset (GSem nD τ sig) := Finset.univ.map ⟨fun p : Dev nD × Fin 19 => kcell p.1 p.2, kcell_inj⟩

theorem tokOf_inj : Function.Injective (fun p : Dev nD × (Dev nD × Fin 19) => ((kcell p.2.1 p.2.2, 0, p.1) : GSem nD τ sig × ℕ × Dev nD)) := by
  rintro ⟨d, p⟩ ⟨d', p'⟩ h
  have h1 : kcell p.1 p.2 = kcell p'.1 p'.2 := congrArg (fun x : GSem nD τ sig × ℕ × Dev nD => x.1) h
  have h2 : d = d' := congrArg (fun x : GSem nD τ sig × ℕ × Dev nD => x.2.2) h
  rw [h2, kcell_inj (a₁ := p) (a₂ := p') h1]

def hToks : Finset (GSem nD τ sig × ℕ × Dev nD) := Finset.univ.map ⟨_, tokOf_inj⟩

def u₀ : UU := (initOf (Pipeline.cells cfgs cellOf_inj) (Pipeline.launchToks cfgs cellOf_inj), initOf hCells hToks)

/-- What the launch gives device `c`. -/
def G (c : Dev nD) : sProp 𝕄 :=
  iprop((bigSep Finset.univ fun k : Fin 19 => roundState ER (Rd m) (kcell c k) 0) ∗ pos c
    ∗ (bigSep Finset.univ fun k : Fin 19 => reached ER (kcell c k) 0) ∗ toks c)

/-- What it makes of it, once the levels are known. -/
def recs (K : Dev nD × Fin 19 → ℕ) : sProp 𝕄 :=
  iprop((bigSep Finset.univ fun p : Dev nD × Fin 19 => cellInv ER (Rd m) (K p) (kcell p.1 p.2))
    ∗ (bigSep Finset.univ fun p : Dev nD × Fin 19 => reached ER (kcell p.1 p.2) 0))

instance persistent_recs (K : Dev nD × Fin 19 → ℕ) : BI.Persistent (recs m K) := by unfold recs; infer_instance

def G' (c : Dev nD) : sProp 𝕄 := iprop(∃ K, recs m K ∗ pos c ∗ toks c)

theorem over_cells (Φ : GSem nD τ sig → sProp 𝕄) :
    bigSep hCells Φ = bigSep Finset.univ fun c : Dev nD => bigSep Finset.univ fun k : Fin 19 => Φ (kcell c k) := by
  unfold hCells
  rw [bigSep_map, bigSep_univ_prod]
  rfl

theorem over_toks : bigSep hToks (fun x => (dutyTok ER x.1 x.2.1 x.2.2 : sProp 𝕄)) = bigSep Finset.univ fun c : Dev nD => toks c := by
  unfold hToks
  rw [bigSep_map, bigSep_univ_prod]
  rfl

theorem fund_cells : BI.own (ER (initOf hCells hToks)) ⊢ (|==> bigSep Finset.univ (G m) : sProp 𝕄) := by
  iintro HX
  imod (Rounds.fund ER (Rd m) hCells hToks) $$ HX with ⟨Hst, Hr, Hat, Htok⟩
  imodintro
  ihave Hst := (Entails.of_eq (over_cells fun g => roundState ER (Rd m) g 0)) $$ Hst
  ihave Hat := (Entails.of_eq (over_cells fun g => atPos ER g 0 ∅ 0)) $$ Hat
  ihave Hr := (Entails.of_eq (over_cells (F := F) fun g => reached ER g 0)) $$ Hr
  ihave Htok := (Entails.of_eq (over_toks (F := F))) $$ Htok
  unfold G pos
  simp only [bigSep_sep']
  isplitl [Hst]; · iexact Hst
  isplitl [Hat]; · iexact Hat
  isplitl [Hr]; · iexact Hr
  iexact Htok

/-- The kernel's counters are the core's own ones and the barrier's. -/
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  have h1 : (unscopedSems0 c : sProp 𝕄) = semVal (kcell c 0) 0 := by
    unfold unscopedSems0
    rw [bigSep_eq_bigSepL_of_eq [SemLoc.reg barrier0] (by decide) (by decide)]
    rfl
  rw [h1, Pipeline.ownSems0_eq_of_list c osem [0, 1, 2, 3, 4, 5, 6, 7, 8, 9, 10, 11, 12, 13, 14, 15, 16, 17] (by decide) (by decide)]
  unfold zeros
  rw [bigSep_univ_eq_bigSepL [0, 1, 2, 3, 4, 5, 6, 7, 8, 9, 10, 11, 12, 13, 14, 15, 16, 17, 18] (by decide) (by decide)]
  rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 19 => iprop(∃ κ : ℕ, cellInv ER (Rd m) κ (kcell c k)))
          ∗ pos c ∗ (bigSep Finset.univ fun k : Fin 19 => reached ER (kcell c k) 0) ∗ toks c) := by
  have h : iprop(zeros c ∗ bigSep Finset.univ fun k : Fin 19 => roundState ER (Rd m) (kcell c k) 0)
      ⊢ (|={Set.univ}=> bigSep Finset.univ fun k : Fin 19 => iprop(∃ κ : ℕ, cellInv ER (Rd m) κ (kcell c k)) : sProp 𝕄) := by
    unfold zeros
    rw [← bigSep_sep']
    exact (bigSep_mono fun k _ => (Rounds.body_intro ER (Rd m) (kcell c k)).trans inv_alloc).trans (bigSep_fupd _ _)
  unfold G
  iintro ⟨Hos, Hus, Hst, Hrest⟩
  ihave Hz := (Entails.of_eq (zeros_eq (F := F) c).symm) $$ [Hos Hus]
  · isplitl [Hus]; · iexact Hus
    iexact Hos
  imod h $$ [Hz Hst] with Hi
  · isplitl [Hz]; · iexact Hz
    iexact Hst
  imodintro
  isplitl [Hi]; · iexact Hi
  iexact Hrest

theorem share_out (K : Dev nD × Fin 19 → ℕ) (c : Dev nD) : iprop(recs m K ∗ pos c ∗ toks c) ⊢ G' m c := by
  unfold G'
  iintro H
  iexists K
  iexact H

theorem regroup :
    (bigSep Finset.univ fun c : Dev nD => iprop((bigSep Finset.univ fun k : Fin 19 => iprop(∃ κ : ℕ, cellInv ER (Rd m) κ (kcell c k)))
          ∗ pos c ∗ (bigSep Finset.univ fun k : Fin 19 => reached ER (kcell c k) 0) ∗ toks c) : sProp 𝕄)
      ⊢ bigSep Finset.univ (G' m) := by
  rw [bigSep_sep', bigSep_sep', bigSep_sep', ← bigSep_univ_prod (fun p : Dev nD × Fin 19 => iprop(∃ κ : ℕ, cellInv ER (Rd m) κ (kcell p.1 p.2))),
    ← bigSep_univ_prod (fun p : Dev nD × Fin 19 => (reached ER (kcell p.1 p.2) 0 : sProp 𝕄))]
  iintro ⟨HI, Hp, #HR, Ht⟩
  ihave HK := (BI.bigSep_exists_pi Finset.univ (fun (p : Dev nD × Fin 19) (κ : ℕ) => (cellInv ER (Rd m) κ (kcell p.1 p.2) : sProp 𝕄))) $$ HI
  icases HK with ⟨%K, #HI⟩
  iapply (with_env (R := recs m K) fun c _ => share_out m K c)
  isplitr
  · unfold recs
    isplitr; · iexact HI
    iexact HR
  iapply (Entails.of_eq (bigSep_sep' Finset.univ (fun c : Dev nD => (pos c : sProp 𝕄)) toks).symm)
  isplitl [Hp]; · iexact Hp
  iexact Ht

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have h : (Pipeline.unscopedRestP Pipeline.Prefetch.none cfg0.spec c (fun b => m ((c : Thread nD τ).loc b)) : sProp 𝕄) = iprop(kMem m c ∗ vMem m c) :=
    (Pipeline.unscopedRestP_none _ _ _).trans (unscopedRest0_eq c _)
  rw [h]
  unfold start G' recs env
  iintro ⟨⟨Hk, Hv⟩, Hlev, Hcr, -, ⟨%K, ⟨HI, HR⟩, Hp, Ht⟩⟩
  imodintro
  isplitl
  · isplitl [HI HR Hlev Hp Ht]
    · iexists K
      isplitl [HI HR Hlev]
      · isplitl [HI]; · iexact HI
        isplitl [HR]; · iexact HR
        iexact Hlev
      isplitl [Hp]; · iexact Hp
      iexact Ht
    isplitl [Hcr]; · iexact Hcr
    isplitl [Hk]; · iexact Hk
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ bufs
  iintro ⟨Hs, -, Hr⟩
  isplitl [Hs]; · iexact Hs
  iexact Hr

theorem phi1_exit (c : Dev nD) :
    (dats m ρ 0 c).Φ (Fin.last cfg0.N) ⊢ iprop((unscopedSems0 c ∗ kMem m c ∗ vMem m c) ∗ Pipeline.ownSems0 osem c ∗ Pipeline.scopedRest cfg0.spec c) := by
  rw [show (dats m ρ 0 c).Φ (Fin.last cfg0.N) = Φ₁ m c from rfl, scopedRest0_eq]
  unfold Φ₁ bufs
  iintro ⟨Hz, Hk, Hv, Hr⟩
  ihave Hz := (Entails.of_eq (zeros_eq (F := F) c)) $$ Hz
  icases Hz with ⟨Hu, Hw⟩
  isplitl [Hu Hk Hv]
  · isplitl [Hu]; · iexact Hu
    isplitl [Hk]; · iexact Hk
    iexact Hv
  isplitl [Hw]; · iexact Hw
  iexact Hr

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_of c _ 0 (by fin_cases w <;> fin_cases s <;> rfl) (owed c) (by revert c; decide)
    · exact mayWait_of c _ 0 (by fin_cases w <;> fin_cases s <;> rfl) [] (by decide)

/-! ## The run -/

/-- What device `c`'s memory and barrier counter hold in the end, besides the windows' arrays. -/
def QY (c : Dev nD) (s : MemSt nD τ sig (Elt F)) : Prop :=
  (∀ sm : SemLoc sig, sm.isScoped .tc = false → s.sem ((c : Thread nD τ), sm) = 0)
    ∧ s.mem ((c : Thread nD τ).loc main_arg2) = m ((c : Thread nD τ).loc main_arg2)
    ∧ s.mem ((c : Thread nD τ).loc main_arg3) = m ((c : Thread nD τ).loc main_arg3)

theorem read_end (c : Dev nD) (s' : Phys nD τ sig (Elt F)) :
    iprop((unscopedSems0 c ∗ kMem m c ∗ vMem m c) ∗ emp ∗ SI s') ⊢ (|={Set.univ}=> iprop(⌜QY m c s'.mem⌝ ∗ SI s') : sProp 𝕄) := by
  iintro ⟨⟨Hu, Hk, Hv⟩, -, HSI⟩
  icombine HSI Hk gives %hk
  icombine HSI Hv gives %hv
  imod (Pipeline.unscopedSems0_read (X := unscopedSems0 c) (c := c) fupd_intro s') $$ [Hu HSI] with ⟨%hu, HSI⟩
  · isplitl [Hu]; · iexact Hu
    iexact HSI
  imodintro
  isplitr
  · ipureintro
    exact ⟨hu, funext fun i => hk i (Finset.mem_univ i), funext fun i => hv i (Finset.mem_univ i)⟩
  iexact HSI

/-- Array `w` of device `c` in the end. -/
def finalA (c : Dev nD) (w : Fin cfg0.W) : Buf (Elt F) ((cfg0.win w).arr.view.loc (c : Thread nD τ)) := (dats m ρ 0 c).arrAt w cfg0.N

/-- The end of a run. -/
def QC (s : MemSt nD τ sig (Elt F)) : Prop :=
  (∀ c : Dev nD, (∀ w : Fin cfg0.W, s.mem ((cfg0.win w).arr.view.loc (c : Thread nD τ)) = finalA m ρ c w)
    ∧ s.mem ((c : Thread nD τ).loc main_arg2) = m ((c : Thread nD τ).loc main_arg2)
    ∧ s.mem ((c : Thread nD τ).loc main_arg3) = m ((c : Thread nD τ).loc main_arg3))
  ∧ s.sem = fun _ => 0

set_option maxRecDepth 8000 in
/-- For any float values, from any memory with every counter at zero, every fair run of the four devices ends, with the
    result array as computed, the arguments as given and every counter at zero. -/
theorem run_main : θ_run defs (onTc (τ := τ) (main (F := F))) (s₀ m ρ) (fun r => QC m ρ r.2) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := fun g hg => if_neg hg) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP]; · iexact HP
      iexact HG)
    (hglob := glob m)
    (hA := fun _ _ => rfl) (hpf := fun _ k => k.elim0)
    (X := start m) (Y := fun c => iprop(unscopedSems0 c ∗ kMem m c ∗ vMem m c)) (Z := fun _ => iprop(emp))
    (hX := start_intro m ρ) (hin := phi0_intro m ρ) (hout := phi1_exit m ρ)
    (QY := QY m) (hY := read_end m)
    (hQ := fun _ h hs => ⟨fun c => ⟨fun w => (h c).1 w, (h c).2.2.2.1, (h c).2.2.2.2⟩, sem_eq_zero hs fun c => (h c).2.2.1⟩)

/-- An array the kernel only reads holds in the end what it held. -/
theorem finalA_in (c : Dev nD) (w : Fin cfg0.W) (hw : (cfg0.win w).isOut = false) : finalA m ρ c w = (s₀ m ρ).mem ((cfg0.win w).arr.view.loc (c : Thread nD τ)) :=
  (dats m ρ 0 c).arrAt_in w hw _

/-- Every run leaves the arguments as they were and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c =>
    ⟨((h.1 c).1 0).trans (finalA_in m ρ c 0 rfl), ((h.1 c).1 1).trans (finalA_in m ρ c 1 rfl), (h.1 c).2.1, (h.1 c).2.2,
      ((h.1 c).1 2).trans (finalA_in m ρ c 2 rfl)⟩, h.2⟩) (run_main m ρ)

end Cert.KernelIdeal.Hand
-- ==== Proof.Frames.lean ====
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent

@[expose] public section

noncomputable section

namespace Cert.Hand

open Idealize.ShloMosaic Idealize.SL.Sem

/-- The real-valued kernel runs to the end, leaves its arguments and every counter as they were. -/
theorem frame_ideal : Cert.quiescent_KernelIdeal := fun m ρ _ => Cert.KernelIdeal.Hand.run_frame (F := Ideal) m ρ

/-- The two programs' body tables are one. -/
theorem defs₀_eq : Cert.Kernel.defs₀ (F := Bits) = Cert.KernelIdeal.defs₀ (F := Bits) := by
  unfold Cert.Kernel.defs₀ Cert.KernelIdeal.defs₀
  refine congrArg Defs.onTc (funext fun l => ?_)
  match l with
  | ⟨0, _⟩ =>
    funext x
    obtain ⟨t, s⟩ := x
    exact rfl
  | ⟨n + 1, h⟩ => exact absurd h (Nat.not_lt.2 (Nat.le_add_left _ _))

theorem defs_eq : Cert.Kernel.defs (F := Bits) = Cert.KernelIdeal.defs (F := Bits) :=
  congrArg (Pipeline.defs (Cert.KernelIdeal.pcfgs (F := Bits))) defs₀_eq

/-- The floating-point kernel too. -/
theorem frame_kernel : Cert.quiescent_Kernel := fun m ρ _ => by
  have h := Cert.KernelIdeal.Hand.run_frame (F := Bits) m ρ
  rw [← defs_eq] at h
  exact h

/-- So does the reference, which has no counter. -/
theorem frame_reference : Cert.quiescent_ReferenceIdeal := fun m ρ _ =>
  (θ_run Cert.ReferenceIdeal.defs _ _).mono (fun _ h => ⟨fun c => (h c).2, sem_eq_zero_of_no_sems (by decide) _⟩) (Cert.ReferenceIdeal.Value.run (F := Ideal) m ρ)

end Cert.Hand
-- ==== Proof.Heads.lean ====
module

public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The values the rows are made of -/

/-- The weights of a short row block: a softmax along 64 keys. -/
def probA (s : FVec F S64x64 .f32) : FVec F S64x64 .bf16 :=
  let e := exp (subf s (broadcastTo S64x64 (shapeCast S64x1 (multiReduction .maximumf [1] S64 s 0xFF800000#32 reduces_S64x64_S64 (.inl rfl) rfl) shapeCasts_S64_S64x1) broadcasts_S64x1_S64x64))
  truncf .bf16 (divf e (broadcastTo S64x64 (shapeCast S64x1 (multiReduction .add [1] S64 e 0x00000000#32 reduces_S64x64_S64 (.inl rfl) rfl) shapeCasts_S64_S64x1) broadcasts_S64x1_S64x64)) bitsLt_bf16_f32

/-- The weights of a long row block: a softmax along 128 keys. -/
def probB (s : FVec F S64x128 .f32) : FVec F S64x128 .bf16 :=
  let e := exp (subf s (broadcastTo S64x128 (shapeCast S64x1 (multiReduction .maximumf [1] S64 s 0xFF800000#32 reduces_S64x128_S64 (.inl rfl) rfl) shapeCasts_S64_S64x1) broadcasts_S64x1_S64x128))
  truncf .bf16 (divf e (broadcastTo S64x128 (shapeCast S64x1 (multiReduction .add [1] S64 e 0x00000000#32 reduces_S64x128_S64 (.inl rfl) rfl) shapeCasts_S64_S64x1) broadcasts_S64x1_S64x128)) bitsLt_bf16_f32

theorem sliceA (h : Fin 4) : S128x256.Slices ![0, 64 * h.val] S64x64 := by revert h; decide
theorem sliceB (h : Fin 4) : S128x256.Slices ![64, 64 * h.val] S64x64 := by revert h; decide

/-- The scores of the first 64 queries of head `h` against the first 64 keys. -/
def scoreA (h : Fin 4) (q : FVec F S128x256 .bf16) (k : FVec F S128x64 .bf16) : FVec F S64x64 .f32 :=
  matmul dot_S64x64_S64x64_S64x64_1_1_0_0_n_n none (extractStridedSlice S64x64 ![0, 64 * h.val] q (sliceA h))
    (extractStridedSlice S64x64 ![0, 0] k slices_S128x64_o0_0_S64x64) (constant S64x64 .f32 0x00000000#32)

/-- The scores of the last 64 queries of head `h` against the 128 keys. -/
def scoreB (h : Fin 4) (q : FVec F S128x256 .bf16) (k : FVec F S128x64 .bf16) : FVec F S64x128 .f32 :=
  matmul dot_S64x64_S128x64_S64x128_1_1_0_0_n_n none (extractStridedSlice S64x64 ![64, 64 * h.val] q (sliceB h)) k
    (constant S64x128 .f32 0x00000000#32)

/-- What head `h` gives for its 128 queries. -/
def headO (h : Fin 4) (q : FVec F S128x256 .bf16) (K V : Vec F S1x1x128x64 .bf16) : FVec F S128x64 .f32 :=
  let k := shapeCast S128x64 K shapeCasts_S1x1x128x64_S128x64
  let v := shapeCast S128x64 V shapeCasts_S1x1x128x64_S128x64
  concatenate S128x64 0
    [⟨S64x64, matmul dot_S64x64_S64x64_S64x64_1_0_0_1_n_n none (probA (scoreA h q k)) (extractStridedSlice S64x64 ![0, 0] v slices_S128x64_o0_0_S64x64) (constant S64x64 .f32 0x00000000#32)⟩,
     ⟨S64x64, matmul dot_S64x128_S128x64_S64x64_1_0_0_1_n_n none (probB (scoreB h q k)) v (constant S64x64 .f32 0x00000000#32)⟩]
    concatenates_S64x64_S64x64_S128x64_d0

/-- The four heads side by side, times the output weights. -/
def mix (o : FVec F S256x512 .f32) (a b c d : FVec F S128x64 .f32) : FVec F S1x128x512 .f32 :=
  shapeCast S1x128x512 (matmul dot_S128x256_S256x512_S128x512_1_0_0_1_n_n none
    (concatenate S128x256 1 [⟨S128x64, a⟩, ⟨S128x64, b⟩, ⟨S128x64, c⟩, ⟨S128x64, d⟩] concatenates_S128x64_S128x64_S128x64_S128x64_S128x256_d1)
    (shapeCast S256x512 o shapeCasts_S256x512_S256x512) (constant S128x512 .f32 0x00000000#32)) shapeCasts_S128x512_S1x128x512

/-- The queries of one row of the batch, scaled. -/
def quer (x : FVec F S1x128x512 .f32) (w : FVec F S512x256 .f32) : FVec F S128x256 .bf16 :=
  truncf .bf16 (mulf (matmul dot_S128x512_S512x256_S128x256_1_0_0_1_n_n none (shapeCast S128x512 x shapeCasts_S1x128x512_S128x512)
    (shapeCast S512x256 w shapeCasts_S512x256_S512x256) (constant S128x256 .f32 0x00000000#32))
    (broadcast S128x256 (Scalar.ofBits .f32 0x3E000000#32))) bitsLt_bf16_f32

theorem row0_eq (fx : S2x128x512.Idx → F .f32) (fq : S512x256.Idx → F .f32) (fo : S256x512.Idx → F .f32) :
    row0 m fx fq fo = mix (ldWo fo)
      (headO 0 (quer (ldX 0 fx) (ldWq fq)) (ldK m 0 0) (ldK m 1 0)) (headO 1 (quer (ldX 0 fx) (ldWq fq)) (ldK m 0 1) (ldK m 1 1))
      (headO 2 (quer (ldX 0 fx) (ldWq fq)) (ldK m 0 2) (ldK m 1 2)) (headO 3 (quer (ldX 0 fx) (ldWq fq)) (ldK m 0 3) (ldK m 1 3)) := rfl

theorem row1_eq (fx : S2x128x512.Idx → F .f32) (fq : S512x256.Idx → F .f32) (fo : S256x512.Idx → F .f32) :
    row1 m fx fq fo = mix (ldWo fo)
      (headO 0 (quer (ldX 1 fx) (ldWq fq)) (ldK m 2 0) (ldK m 3 0)) (headO 1 (quer (ldX 1 fx) (ldWq fq)) (ldK m 2 1) (ldK m 3 1))
      (headO 2 (quer (ldX 1 fx) (ldWq fq)) (ldK m 2 2) (ldK m 3 2)) (headO 3 (quer (ldX 1 fx) (ldWq fq)) (ldK m 2 3) (ldK m 3 3)) := rfl

end Cert.KernelIdeal.Hand
-- ==== Proof.KVal.lean ====
module

public import proofs.«01_k».proof.Proof.Heads
public import Idealize.ShloMosaic.Lib.Pointwise

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The kernel's values at an index, over the reals -/

set_option maxRecDepth 16384

/-- The largest entry of a row. -/
def mx {n : ℕ} (s : Fin n → EReal) : EReal := Finset.fold max (Ideal.ofBits .f32 0xFF800000#32) s Finset.univ

/-- A row's softmax. -/
def smx {n : ℕ} (s : Fin n → EReal) (j : Fin n) : EReal := Ideal.div (Ideal.exp (s j - mx s)) (∑ k, Ideal.exp (s k - mx s))

theorem probA_apply (s : FVec Ideal S64x64 .f32) (i j : Fin 64) : probA s (ix2 i j) = smx (fun k => s (ix2 i k)) j := by
  pointwise [probA, smx, mx]

theorem probB_apply (s : FVec Ideal S64x128 .f32) (i : Fin 64) (j : Fin 128) : probB s (ix2 i j) = smx (fun k => s (ix2 i k)) j := by
  pointwise [probB, smx, mx]

theorem scoreA_apply (h : Fin 4) (q : FVec Ideal S128x256 .bf16) (k : FVec Ideal S128x64 .bf16) (i j : Fin 64) :
    scoreA h q k (ix2 i j) = ∑ e : Fin 64, q (ix2 ⟨i.val, by omega⟩ ⟨64 * h.val + e.val, by omega⟩) * k (ix2 ⟨j.val, by omega⟩ e) := by
  pointwise [scoreA]

theorem scoreB_apply (h : Fin 4) (q : FVec Ideal S128x256 .bf16) (k : FVec Ideal S128x64 .bf16) (i : Fin 64) (j : Fin 128) :
    scoreB h q k (ix2 i j) = ∑ e : Fin 64, q (ix2 ⟨64 + i.val, by omega⟩ ⟨64 * h.val + e.val, by omega⟩) * k (ix2 j e) := by
  pointwise [scoreB]

theorem headO_apply (h : Fin 4) (q : FVec Ideal S128x256 .bf16) (K V : Vec Ideal S1x1x128x64 .bf16) (i : Fin 128) (d : Fin 64) :
    headO h q K V (ix2 i d) = if i.val < 64 then
        ∑ j : Fin 64, smx (fun k : Fin 64 => ∑ e : Fin 64, q (ix2 i ⟨64 * h.val + e.val, by omega⟩) * K (ix4 0 0 ⟨k.val, by omega⟩ e)) j * V (ix4 0 0 ⟨j.val, by omega⟩ d)
      else ∑ j : Fin 128, smx (fun k : Fin 128 => ∑ e : Fin 64, q (ix2 i ⟨64 * h.val + e.val, by omega⟩) * K (ix4 0 0 k e)) j * V (ix4 0 0 j d) := by
  pointwise [headO, probA_apply, probB_apply, scoreA_apply, scoreB_apply]
  split
  · rfl
  · rename_i hi
    have e (c : Fin 64) : (ix2 (⟨64 + (i.val - 64), by omega⟩ : Fin 128) (⟨64 * h.val + c.val, by omega⟩ : Fin 256) : S128x256.Idx) = ix2 i ⟨64 * h.val + c.val, by omega⟩ := by
      congr 1; exact Fin.ext (by show 64 + (i.val - 64) = i.val; omega)
    simp only [e]

theorem mix_apply (o : FVec Ideal S256x512 .f32) (H : Fin 4 → FVec Ideal S128x64 .f32) (i : Fin 128) (n : Fin 512) :
    mix o (H 0) (H 1) (H 2) (H 3) (ix3 0 i n) = ∑ w : Fin 256, H ⟨w.val / 64, by omega⟩ (ix2 i ⟨w.val % 64, by omega⟩) * o (ix2 w n) := by
  pointwise [mix]
  refine Finset.sum_congr rfl fun w _ => congrArg (· * o (ix2 w n)) ?_
  have hw := w.isLt
  have key (a : Fin 4) (c : Fin 64) (ha : w.val / 64 = a.val) (hc : w.val % 64 = c.val) :
      H a (ix2 i c) = H ⟨w.val / 64, by omega⟩ (ix2 i ⟨w.val % 64, by omega⟩) := by
    rw [show (⟨w.val / 64, by omega⟩ : Fin 4) = a from Fin.ext ha, show (⟨w.val % 64, by omega⟩ : Fin 64) = c from Fin.ext hc]
  by_cases h0 : w.val < 64
  · rw [dif_pos h0]; exact key 0 ⟨w.val, _⟩ (by show w.val / 64 = 0; omega) (by show w.val % 64 = w.val; omega)
  rw [dif_neg h0]
  by_cases h1 : w.val - 64 < 64
  · rw [dif_pos h1]; exact key 1 ⟨w.val - 64, _⟩ (by show w.val / 64 = 1; omega) (by show w.val % 64 = w.val - 64; omega)
  rw [dif_neg h1]
  by_cases h2 : w.val - 64 - 64 < 64
  · rw [dif_pos h2]; exact key 2 ⟨w.val - 64 - 64, _⟩ (by show w.val / 64 = 2; omega) (by show w.val % 64 = w.val - 64 - 64; omega)
  rw [dif_neg h2]
  exact key 3 ⟨w.val - 64 - 64 - 64, _⟩ (by show w.val / 64 = 3; omega) (by show w.val % 64 = w.val - 64 - 64 - 64; omega)

theorem quer_apply (x : FVec Ideal S1x128x512 .f32) (w : FVec Ideal S512x256 .f32) (i : Fin 128) (n : Fin 256) :
    quer x w (ix2 i n) = (∑ e : Fin 512, x (ix3 0 i e) * w (ix2 e n)) * Ideal.ofBits .f32 0x3E000000#32 := by
  pointwise [quer]

section Loads
variable {F : FTy → Type} [FloatOps F] (m : (ℓ : Loc nD τ sig) → Buf (Elt F) ℓ)

theorem ldX_apply (b : Fin 2) (f : S2x128x512.Idx → F .f32) (i : Fin 128) (e : Fin 512) : ldX b f (ix3 0 i e) = f (ix3 b i e) := by
  show f ((oR b).emb (ix3 0 i e)) = _
  congr 1
  funext a
  apply Fin.ext
  match a with
  | ⟨0, _⟩ => show b.val + 1 * 0 = b.val; omega
  | ⟨1, _⟩ => show 0 + 1 * i.val = i.val; omega
  | ⟨2, _⟩ => show 0 + 1 * e.val = e.val; omega

theorem ldWq_apply (f : S512x256.Idx → F .f32) (e : Fin 512) (n : Fin 256) : ldWq f (ix2 e n) = f (ix2 e n) := by
  show f ((Rect.unit (s := S512x256) ![0, 0] S512x256.size inb_S512x256_S512x256_0_0).emb (ix2 e n)) = _
  congr 1
  funext a
  apply Fin.ext
  match a with
  | ⟨0, _⟩ => show 0 + 1 * e.val = e.val; omega
  | ⟨1, _⟩ => show 0 + 1 * n.val = n.val; omega

theorem ldWo_apply (f : S256x512.Idx → F .f32) (e : Fin 256) (n : Fin 512) : ldWo f (ix2 e n) = f (ix2 e n) := by
  show f ((Rect.unit (s := S256x512) ![0, 0] S256x512.size inb_S256x512_S256x512_0_0).emb (ix2 e n)) = _
  congr 1
  funext a
  apply Fin.ext
  match a with
  | ⟨0, _⟩ => show 0 + 1 * e.val = e.val; omega
  | ⟨1, _⟩ => show 0 + 1 * n.val = n.val; omega

theorem rowOf_apply (b : Fin 2) (f : S2x128x4x64.Idx → F .f32) (k : Fin 128) (h : Fin 4) (e : Fin 64) :
    rowOf b f (ix4 0 k h e) = f (ix4 b k h e) := by
  unfold rowOf
  congr 1
  funext a
  apply Fin.ext
  match a with
  | ⟨0, _⟩ => show b.val + 1 * 0 = b.val; omega
  | ⟨1, _⟩ => show 0 + 1 * k.val = k.val; omega
  | ⟨2, _⟩ => show 0 + 1 * h.val = h.val; omega
  | ⟨3, _⟩ => show 0 + 1 * e.val = e.val; omega

theorem ldK_chunk (j h : Fin 4) (k : Fin 128) (e : Fin 64) :
    ldK m j h (ix4 0 0 k e) = chunk m j (ix4 0 0 k ⟨64 * h.val + e.val, by omega⟩) := by
  rw [← kvAll_emb]
  show kvAll m ((kvC j h).emb (ix4 0 0 k e)) = _
  congr 1
  funext a
  apply Fin.ext
  match a with
  | ⟨0, _⟩ => rfl
  | ⟨1, _⟩ => rfl
  | ⟨2, _⟩ => rfl
  | ⟨3, _⟩ => show 64 * h.val + 1 * e.val = 0 + 1 * (64 * h.val + e.val); omega

end Loads

variable (m : (ℓ : Loc nD τ sig) → Buf (Elt Ideal) ℓ)

theorem ldK0_apply (h : Fin 4) (k : Fin 128) (e : Fin 64) : ldK m 0 h (ix4 0 0 k e) = kIn m (ix4 0 k h e) := by
  rw [ldK_chunk, ← rowOf_apply 0 (kIn m)]
  show k0_pay1 (rowOf 0 (kIn m)) _ = _
  pointwise [k0_pay1]

theorem ldK1_apply (h : Fin 4) (k : Fin 128) (e : Fin 64) : ldK m 1 h (ix4 0 0 k e) = vIn m (ix4 0 k h e) := by
  rw [ldK_chunk, ← rowOf_apply 0 (vIn m)]
  show k0_pay2 (rowOf 0 (vIn m)) _ = _
  pointwise [k0_pay2]

theorem ldK2_apply (h : Fin 4) (k : Fin 128) (e : Fin 64) : ldK m 2 h (ix4 0 0 k e) = kIn m (ix4 1 k h e) := by
  rw [ldK_chunk, ← rowOf_apply 1 (kIn m)]
  show k0_pay4 (k0_pay3 (rowOf 1 (kIn m))) _ = _
  pointwise [k0_pay4, k0_pay3]

theorem ldK3_apply (h : Fin 4) (k : Fin 128) (e : Fin 64) : ldK m 3 h (ix4 0 0 k e) = vIn m (ix4 1 k h e) := by
  rw [ldK_chunk, ← rowOf_apply 1 (vIn m)]
  show k0_pay5 (rowOf 1 (vIn m)) _ = _
  pointwise [k0_pay5]

/-- A scaled query entry: row `i` of batch row `b`, column `n`. -/
def qv (x : S2x128x512.Idx → EReal) (wq : S512x256.Idx → EReal) (b : Fin 2) (i : Fin 128) (n : Fin 256) : EReal :=
  (∑ e : Fin 512, x (ix3 b i e) * wq (ix2 e n)) * Ideal.ofBits .f32 0x3E000000#32

/-- A score: query `i` of head `h` against key `k`. -/
def sv (x : S2x128x512.Idx → EReal) (wq : S512x256.Idx → EReal) (K : S2x128x4x64.Idx → EReal) (b : Fin 2) (h : Fin 4) (i k : Fin 128) : EReal :=
  ∑ e : Fin 64, qv x wq b i ⟨64 * h.val + e.val, by omega⟩ * K (ix4 b k h e)

/-- What head `h` gives at query `i`, coordinate `d`: a softmax over the first 64 keys, or over the 128. -/
def hv (x : S2x128x512.Idx → EReal) (wq : S512x256.Idx → EReal) (K V : S2x128x4x64.Idx → EReal) (b : Fin 2) (h : Fin 4) (i : Fin 128) (d : Fin 64) : EReal :=
  if i.val < 64 then ∑ j : Fin 64, smx (fun k : Fin 64 => sv x wq K b h i ⟨k.val, by omega⟩) j * V (ix4 b ⟨j.val, by omega⟩ h d)
  else ∑ j : Fin 128, smx (fun k : Fin 128 => sv x wq K b h i k) j * V (ix4 b j h d)

theorem headO_hv (b : Fin 2) (jk jv : Fin 4) (hk : ∀ h k e, ldK m jk h (ix4 0 0 k e) = kIn m (ix4 b k h e))
    (hw : ∀ h k e, ldK m jv h (ix4 0 0 k e) = vIn m (ix4 b k h e))
    (fx : FVec Ideal S2x128x512 .f32) (fq : FVec Ideal S512x256 .f32) (h : Fin 4) (i : Fin 128) (d : Fin 64) :
    headO (F := Ideal) h (quer (F := Ideal) (ldX (F := Ideal) b fx) (ldWq (F := Ideal) fq)) (ldK m jk h) (ldK m jv h) (ix2 i d) = hv fx fq (kIn m) (vIn m) b h i d := by
  have hq (n : Fin 256) : quer (F := Ideal) (ldX (F := Ideal) b fx) (ldWq (F := Ideal) fq) (ix2 i n) = qv fx fq b i n := by
    rw [quer_apply]
    unfold qv
    refine congrArg (· * Ideal.ofBits .f32 0x3E000000#32) (Finset.sum_congr rfl fun e _ => ?_)
    rw [ldX_apply (F := Ideal), ldWq_apply (F := Ideal)]
  refine (headO_apply h _ _ _ i d).trans ?_
  unfold hv
  by_cases hi : i.val < 64
  · rw [if_pos hi, if_pos hi]
    refine Finset.sum_congr rfl fun j _ => ?_
    rw [hw]
    refine congrArg (fun f => smx f j * _) (funext fun k => ?_)
    unfold sv
    refine Finset.sum_congr rfl fun e _ => ?_
    rw [hq, hk]
  · rw [if_neg hi, if_neg hi]
    refine Finset.sum_congr rfl fun j _ => ?_
    rw [hw]
    refine congrArg (fun f => smx f j * _) (funext fun k => ?_)
    unfold sv
    refine Finset.sum_congr rfl fun e _ => ?_
    rw [hq, hk]

theorem mix_headO (b : Fin 2) (jk jv : Fin 4) (hk : ∀ h k e, ldK m jk h (ix4 0 0 k e) = kIn m (ix4 b k h e))
    (hw : ∀ h k e, ldK m jv h (ix4 0 0 k e) = vIn m (ix4 b k h e))
    (fx : FVec Ideal S2x128x512 .f32) (fq : FVec Ideal S512x256 .f32) (fo : FVec Ideal S256x512 .f32) (i : Fin 128) (n : Fin 512)
    (H : Fin 4 → FVec Ideal S128x64 .f32)
    (hH : ∀ h, H h = headO (F := Ideal) h (quer (F := Ideal) (ldX (F := Ideal) b fx) (ldWq (F := Ideal) fq)) (ldK m jk h) (ldK m jv h)) :
    mix (F := Ideal) (ldWo (F := Ideal) fo) (H 0) (H 1) (H 2) (H 3) (ix3 0 i n)
      = ∑ w : Fin 256, hv fx fq (kIn m) (vIn m) b ⟨w.val / 64, by omega⟩ i ⟨w.val % 64, by omega⟩ * fo (ix2 w n) := by
  refine (mix_apply _ H i n).trans (Finset.sum_congr rfl fun w _ => ?_)
  rw [hH, headO_hv m b jk jv hk hw, ldWo_apply (F := Ideal)]

theorem row0_apply (fx : FVec Ideal S2x128x512 .f32) (fq : FVec Ideal S512x256 .f32) (fo : FVec Ideal S256x512 .f32) (i : Fin 128) (n : Fin 512) :
    row0 m fx fq fo (ix3 0 i n) = ∑ w : Fin 256, hv fx fq (kIn m) (vIn m) 0 ⟨w.val / 64, by omega⟩ i ⟨w.val % 64, by omega⟩ * fo (ix2 w n) :=
  (congrFun (row0_eq m fx fq fo) (ix3 0 i n)).trans (mix_headO m 0 0 1 (ldK0_apply m) (ldK1_apply m) fx fq fo i n
    (fun h => headO (F := Ideal) h (quer (F := Ideal) (ldX (F := Ideal) 0 fx) (ldWq (F := Ideal) fq)) (ldK m 0 h) (ldK m 1 h)) fun _ => rfl)

theorem row1_apply (fx : FVec Ideal S2x128x512 .f32) (fq : FVec Ideal S512x256 .f32) (fo : FVec Ideal S256x512 .f32) (i : Fin 128) (n : Fin 512) :
    row1 m fx fq fo (ix3 0 i n) = ∑ w : Fin 256, hv fx fq (kIn m) (vIn m) 1 ⟨w.val / 64, by omega⟩ i ⟨w.val % 64, by omega⟩ * fo (ix2 w n) :=
  (congrFun (row1_eq m fx fq fo) (ix3 0 i n)).trans (mix_headO m 1 2 3 (ldK2_apply m) (ldK3_apply m) fx fq fo i n
    (fun h => headO (F := Ideal) h (quer (F := Ideal) (ldX (F := Ideal) 1 fx) (ldWq (F := Ideal) fq)) (ldK m 2 h) (ldK m 3 h)) fun _ => rfl)

end Cert.KernelIdeal.Hand
-- ==== Proof.RVal.lean ====
module

public import proofs.«01_k».proof.Proof.Gen.ReferenceIdeal.Run
public import proofs.«01_k».proof.Proof.KVal
public import Idealize.ShloMosaic.Lib.Tactic.CleanTypes

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-! ## The reference's operations, named -/

/-- The block of each key. -/
def kb : IVec S512 32 :=
  select (andi (cmpi .ne (signi (iotaInDim S512 32 0)) (broadcastInDim S512 ![] bcast_S_S512 (signi (id (constantI S_ 32 64#32))))) (cmpi .ne (Host.remsi (iotaInDim S512 32 0) (broadcastInDim S512 ![] bcast_S_S512 (id (constantI S_ 32 64#32)))) (broadcastInDim S512 ![] bcast_S_S512 (constantI S_ 32 0#32)))) (subi (Host.divsi (iotaInDim S512 32 0) (broadcastInDim S512 ![] bcast_S_S512 (id (constantI S_ 32 64#32)))) (broadcastInDim S512 ![] bcast_S_S512 (constantI S_ 32 1#32))) (Host.divsi (iotaInDim S512 32 0) (broadcastInDim S512 ![] bcast_S_S512 (id (constantI S_ 32 64#32))))

/-- The block of each query. -/
def qb : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- Which keys each query may see. -/
def mask : IVec S128x512 1 :=
  cmpi .sle (broadcastInDim S128x512 ![0, 1] bcast_S1x512_S128x512_0_1 (broadcastInDim S1x512 ![1] bcast_S512_S1x512_1 kb)) (broadcastInDim S128x512 ![0, 1] bcast_S128x1_S128x512_0_1 (broadcastInDim S128x1 ![0] bcast_S128_S128x1_0 qb))

/-- Whether a query sees a key at all. -/
def keep : IVec S128 1 := Host.reduce IntOp.ori mask (constantI S_ 1 0#1) reducesTo_S128x512_S128_d1 h_S_

/-- The masked scores. -/
def scores (x : FVec F S2x128x512 .f32) (wq : FVec F S512x256 .f32) (K : FVec F S2x512x4x64 .f32) : FVec F S2x4x128x512 .f32 :=
  select (broadcastInDim S2x4x128x512 ![0, 1, 2, 3] bcast_S1x1x128x512_S2x4x128x512_0_1_2_3 (broadcastInDim S1x1x128x512 ![2, 3] bcast_S128x512_S1x1x128x512_2_3 mask)) (mulf (Host.dotGeneral dot_S2x128x4x64_S2x512x4x64_S2x4x128x512_3_3_1_1_02_02 none (shapeCast S2x128x4x64 (Host.dotGeneral dot_S2x128x512_S512x256_S2x128x256_2_0_01_1_n_n none x wq) shapeCasts_S2x128x256_S2x128x4x64) K) (broadcastInDim S2x4x128x512 ![] bcast_S_S2x4x128x512 (constant S_ .f32 0x3E000000#32))) (broadcastInDim S2x4x128x512 ![] bcast_S_S2x4x128x512 (id (constant S_ .f32 0xFF800000#32)))

/-- The scores' exponentials, each row less its largest. -/
def expo (s : FVec F S2x4x128x512 .f32) : FVec F S2x4x128x512 .f32 :=
  Host.exp (subf s (broadcastInDim S2x4x128x512 ![0, 1, 2, 3] bcast_S2x4x128x1_S2x4x128x512_0_1_2_3 (broadcastInDim S2x4x128x1 ![0, 1, 2] bcast_S2x4x128_S2x4x128x1_0_1_2 (Host.reduce FloatOps.maximumf s (constant S_ .f32 0xFF800000#32) reducesTo_S2x4x128x512_S2x4x128_d3 h_S_))))

/-- The weights. -/
def weights (e : FVec F S2x4x128x512 .f32) : FVec F S2x4x128x512 .f32 :=
  select (broadcastInDim S2x4x128x512 ![0, 1, 2, 3] bcast_S1x1x128x1_S2x4x128x512_0_1_2_3 (broadcastInDim S1x1x128x1 ![2] bcast_S128_S1x1x128x1_2 keep)) (Host.divf e (broadcastInDim S2x4x128x512 ![0, 1, 2, 3] bcast_S2x4x128x1_S2x4x128x512_0_1_2_3 (select (broadcastInDim S2x4x128x1 ![0, 1, 2, 3] bcast_S1x1x128x1_S2x4x128x1_0_1_2_3 (broadcastInDim S1x1x128x1 ![2] bcast_S128_S1x1x128x1_2 keep)) (broadcastInDim S2x4x128x1 ![0, 1, 2] bcast_S2x4x128_S2x4x128x1_0_1_2 (Host.reduceAdd e (constant S_ .f32 0x00000000#32) reducesTo_S2x4x128x512_S2x4x128_d3 h_S_)) (broadcastInDim S2x4x128x1 ![] bcast_S_S2x4x128x1 (id (constant S_ .f32 0x3F800000#32)))))) (broadcastInDim S2x4x128x512 ![] bcast_S_S2x4x128x512 (id (constant S_ .f32 0x00000000#32)))

/-- The result. -/
def attend (V : FVec F S2x512x4x64 .f32) (wo : FVec F S256x512 .f32) (p : FVec F S2x4x128x512 .f32) : FVec F S2x128x512 .f32 :=
  Host.dotGeneral dot_S2x128x256_S256x512_S2x128x512_2_0_01_1_n_n none (shapeCast S2x128x256 (transpose S2x128x4x64 [0, 3, 1, 2] (Host.dotGeneral dot_S2x512x4x64_S2x4x128x512_S2x4x64x128_1_3_3_2_02_01 none V p) transposes_S2x4x64x128_S2x128x4x64_0_3_1_2) shapeCasts_S2x128x4x64_S2x128x256) wo

theorem res_eq (m : (ℓ : Loc nD τ sig) → Buf (Elt F) ℓ) (c : Dev nD) :
    Value.res_main_v33 m c = attend (m ((c.tc : Thread nD τ).loc main_arg3)) (m ((c.tc : Thread nD τ).loc main_arg4))
      (weights (expo (scores (m ((c.tc : Thread nD τ).loc main_arg0)) (m ((c.tc : Thread nD τ).loc main_arg1)) (m ((c.tc : Thread nD τ).loc main_arg2))))) := rfl

/-! ## At an index, over the reals -/

theorem qb_apply (i : Fin 128) : qb (ix1 i) = BitVec.ofNat 32 (i.val / 64) := by
  pointwise [qb]
  revert i
  decide +kernel

theorem kb_apply (j : Fin 512) : kb (ix1 j) = BitVec.ofNat 32 (j.val / 64) := by
  pointwise [kb]
  revert j
  decide +kernel

theorem sle_blocks : ∀ a : Fin 8, ∀ b : Fin 2, IntOp.cmpi CmpIPredicate.sle (BitVec.ofNat 32 a.val) (BitVec.ofNat 32 b.val) = if a.val ≤ b.val then 1#1 else 0#1 := by
  decide

theorem mask_apply (i : Fin 128) (j : Fin 512) : mask (ix2 i j) = if j.val / 64 ≤ i.val / 64 then 1#1 else 0#1 := by
  pointwise [mask, qb_apply, kb_apply]
  exact sle_blocks ⟨j.val / 64, by omega⟩ ⟨i.val / 64, by omega⟩

theorem keep_apply (i : Fin 128) : keep (ix1 i) = 1#1 := by
  pointwise [keep, mask_apply]
  rw [← Finset.insert_erase (Finset.mem_univ (0 : Fin 512)), Finset.fold_insert (Finset.notMem_erase _ _), if_pos (by show 0 / 64 ≤ i.val / 64; omega)]
  generalize Finset.fold IntOp.ori (0#1) _ _ = b
  revert b
  decide

theorem scores_apply (x : FVec Ideal S2x128x512 .f32) (wq : FVec Ideal S512x256 .f32) (K : FVec Ideal S2x512x4x64 .f32) (b : Fin 2) (h : Fin 4) (i : Fin 128) (j : Fin 512) :
    scores x wq K (ix4 b h i j) = if j.val / 64 ≤ i.val / 64 then
      (∑ e : Fin 64, (∑ n : Fin 512, x (ix3 b i n) * wq (ix2 n ⟨64 * h.val + e.val, by omega⟩)) * K (ix4 b j h e)) * Ideal.ofBits .f32 0x3E000000#32 else ⊥ := by
  pointwise [scores, mask_apply]
  by_cases hj : j.val / 64 ≤ i.val / 64
  · rw [if_pos hj, if_pos hj, ValueIdx.select_one]
    simp only [Nat.mul_comm h.val 64]
  · rw [if_neg hj, if_neg hj, ValueIdx.select_zero]
    show Ideal.ofBits .f32 0xFF800000#32 = ⊥
    simp [Ideal.ofBits, Ideal.ieee]

theorem expo_apply (s : FVec Ideal S2x4x128x512 .f32) (b : Fin 2) (h : Fin 4) (i : Fin 128) (j : Fin 512) :
    expo s (ix4 b h i j) = Ideal.exp (s (ix4 b h i j) - Cert.KernelIdeal.Hand.mx fun k => s (ix4 b h i k)) := by
  pointwise [expo, Cert.KernelIdeal.Hand.mx]

theorem weights_apply (e : FVec Ideal S2x4x128x512 .f32) (hk : ∀ i, keep (ix1 i) = 1#1) (b : Fin 2) (h : Fin 4) (i : Fin 128) (j : Fin 512) :
    weights e (ix4 b h i j) = Ideal.div (e (ix4 b h i j)) (∑ k, e (ix4 b h i k)) := by
  pointwise [weights, hk]

theorem attend_apply (V : FVec Ideal S2x512x4x64 .f32) (wo : FVec Ideal S256x512 .f32) (p : FVec Ideal S2x4x128x512 .f32) (b : Fin 2) (i : Fin 128) (n : Fin 512) :
    attend V wo p (ix3 b i n) = ∑ w : Fin 256, (∑ j : Fin 512, V (ix4 b j ⟨w.val / 64, by omega⟩ ⟨w.val % 64, by omega⟩) * p (ix4 b ⟨w.val / 64, by omega⟩ i j)) * wo (ix2 w n) := by
  pointwise [attend]

end Cert.ReferenceIdeal.Hand
-- ==== Proof.Softmax.lean ====
module

public import proofs.«01_k».proof.Proof.KVal

@[expose] public section

noncomputable section

namespace Cert.Hand

open Idealize.ShloMosaic
open Cert.KernelIdeal.Hand (mx smx)

/-! ## A masked softmax is the softmax of the keys that are seen -/

/-- A value that is a real number. -/
def IsR (x : EReal) : Prop := ∃ r : ℝ, x = (r : EReal)

theorem IsR.add {x y : EReal} (hx : IsR x) (hy : IsR y) : IsR (x + y) := by
  obtain ⟨a, rfl⟩ := hx
  obtain ⟨b, rfl⟩ := hy
  exact ⟨a + b, (EReal.coe_add a b).symm⟩

theorem IsR.mul {x y : EReal} (hx : IsR x) (hy : IsR y) : IsR (x * y) := by
  obtain ⟨a, rfl⟩ := hx
  obtain ⟨b, rfl⟩ := hy
  exact ⟨a * b, (EReal.coe_mul a b).symm⟩

theorem IsR.sum {ι : Type} (s : Finset ι) (f : ι → EReal) (h : ∀ i ∈ s, IsR (f i)) : IsR (∑ i ∈ s, f i) :=
  Finset.sum_induction f IsR (fun _ _ => IsR.add) ⟨0, rfl⟩ h

theorem IsR.ne_bot {x : EReal} (h : IsR x) : x ≠ ⊥ := by
  obtain ⟨a, rfl⟩ := h
  exact EReal.coe_ne_bot a

theorem IsR.ne_top {x : EReal} (h : IsR x) : x ≠ ⊤ := by
  obtain ⟨a, rfl⟩ := h
  exact EReal.coe_ne_top a

theorem IsR.of_ne {x : EReal} (hb : x ≠ ⊥) (ht : x ≠ ⊤) : IsR x := ⟨x.toReal, (EReal.coe_toReal ht hb).symm⟩

theorem mx_eq_sup {n : ℕ} (s : Fin n → EReal) : mx s = Finset.univ.sup s := by
  have h : Ideal.ofBits .f32 0xFF800000#32 = ⊥ := by simp [Ideal.ofBits, Ideal.ieee]
  unfold mx
  rw [h]
  rfl

theorem mx_isR {n : ℕ} (hn : 0 < n) (s : Fin n → EReal) (h : ∀ k, IsR (s k)) : IsR (mx s) := by
  rw [mx_eq_sup]
  refine IsR.of_ne (fun e => ?_) (ne_of_lt ?_)
  · have := Finset.le_sup (f := s) (Finset.mem_univ ⟨0, hn⟩)
    rw [e] at this
    exact (h ⟨0, hn⟩).ne_bot (le_bot_iff.mp this)
  · rw [Finset.sup_lt_iff bot_lt_top]
    exact fun k _ => lt_top_iff_ne_top.mpr (h k).ne_top

/-- The scores with the keys from `n` on masked. -/
def masked {N : ℕ} (n : ℕ) (S : Fin N → EReal) (k : Fin N) : EReal := if k.val < n then S k else ⊥

theorem mx_masked {N n : ℕ} (hn : n ≤ N) (S : Fin N → EReal) : mx (masked n S) = mx fun k : Fin n => S (Fin.castLE hn k) := by
  rw [mx_eq_sup, mx_eq_sup]
  apply le_antisymm
  · refine Finset.sup_le fun k _ => ?_
    unfold masked
    split
    · rename_i hk
      exact Finset.le_sup (f := fun k : Fin n => S (Fin.castLE hn k)) (Finset.mem_univ ⟨k.val, hk⟩)
    · exact bot_le
  · refine Finset.sup_le fun k _ => ?_
    have : S (Fin.castLE hn k) = masked n S (Fin.castLE hn k) := (if_pos k.isLt).symm
    rw [this]
    exact Finset.le_sup (f := masked n S) (Finset.mem_univ _)

/-- A sum whose terms are 0 from `n` on. -/
theorem sum_cut {N n : ℕ} (hn : n ≤ N) (g : Fin N → EReal) (h0 : ∀ k : Fin N, n ≤ k.val → g k = 0) :
    ∑ k, g k = ∑ k : Fin n, g (Fin.castLE hn k) :=
  (Fintype.sum_of_injective (Fin.castLE hn) (Fin.castLE_injective hn) (fun k => g (Fin.castLE hn k)) g
    (fun k hk => h0 k (by
      by_contra hlt
      exact hk ⟨⟨k.val, by omega⟩, rfl⟩)) (fun _ => rfl)).symm

theorem exp_bot_sub (M : EReal) : Ideal.exp (⊥ - M) = 0 := by
  rw [sub_eq_add_neg, EReal.bot_add]
  rfl

theorem exp_pos {x y : EReal} (hx : IsR x) (hy : IsR y) : 0 < Ideal.exp (x - y) := by
  obtain ⟨a, rfl⟩ := hx
  obtain ⟨b, rfl⟩ := hy
  rw [← EReal.coe_sub]
  exact EReal.coe_pos.mpr (Real.exp_pos _)

theorem exp_nonneg (x : EReal) : 0 ≤ Ideal.exp x := by
  induction x with
  | bot => exact le_refl _
  | top => exact le_top
  | coe a => exact EReal.coe_nonneg.mpr (Real.exp_pos _).le

/-- Under the mask the weighted sum over all the keys is the weighted sum over the first `n`, whose scores are numbers. -/
theorem masked_attend {N n : ℕ} (hn : n ≤ N) (h0 : 0 < n) (S V : Fin N → EReal) (hS : ∀ k : Fin n, IsR (S (Fin.castLE hn k))) :
    ∑ j : Fin N, V j * smx (masked n S) j = ∑ j : Fin n, smx (fun k : Fin n => S (Fin.castLE hn k)) j * V (Fin.castLE hn j) := by
  have hM := mx_isR h0 _ hS
  have hin (k : Fin n) : masked n S (Fin.castLE hn k) = S (Fin.castLE hn k) := if_pos k.isLt
  have hout (k : Fin N) (hk : n ≤ k.val) : Ideal.exp (masked n S k - mx (masked n S)) = 0 := by
    rw [show masked n S k = ⊥ from if_neg (by omega)]
    exact exp_bot_sub _
  have hsum : ∑ k, Ideal.exp (masked n S k - mx (masked n S))
      = ∑ k : Fin n, Ideal.exp (S (Fin.castLE hn k) - mx fun k : Fin n => S (Fin.castLE hn k)) := by
    rw [sum_cut hn _ hout, mx_masked hn]
    simp only [hin]
  have hne : ∑ k, Ideal.exp (masked n S k - mx (masked n S)) ≠ 0 := by
    rw [hsum]
    refine ne_of_gt (lt_of_lt_of_le (exp_pos (hS ⟨0, h0⟩) hM) ?_)
    exact Finset.single_le_sum (f := fun k : Fin n => Ideal.exp (S (Fin.castLE hn k) - mx fun k : Fin n => S (Fin.castLE hn k)))
      (fun k _ => exp_nonneg _) (Finset.mem_univ (⟨0, h0⟩ : Fin n))
  rw [sum_cut hn _ fun k hk => ?_]
  · refine Finset.sum_congr rfl fun j _ => ?_
    rw [mul_comm]
    refine congrArg (· * _) ?_
    unfold smx
    rw [hsum, hin, mx_masked hn]
  · unfold smx
    rw [hout k hk]
    unfold Ideal.div
    rw [if_neg hne, zero_mul, mul_zero]

/-- The scale, a number that is not negative, comes out of a sum of products. -/
theorem sum_scale {ι : Type} (s : Finset ι) (a b : ι → EReal) (c : EReal) (hc : 0 ≤ c) (ht : c ≠ ⊤) :
    ∑ e ∈ s, a e * c * b e = (∑ e ∈ s, a e * b e) * c := by
  classical
  induction s using Finset.induction_on with
  | empty => simp
  | insert i s hi ih =>
    rw [Finset.sum_insert hi, Finset.sum_insert hi, ih, EReal.right_distrib_of_nonneg_of_ne_top hc ht, mul_right_comm]

theorem scale_nonneg : 0 ≤ Ideal.ofBits .f32 0x3E000000#32 := by
  simp [Ideal.ofBits, Ideal.ieee]
  exact mul_nonneg (EReal.coe_nonneg.mpr (by positivity)) (EReal.coe_nonneg.mpr (by positivity))

theorem scale_isR : IsR (Ideal.ofBits .f32 0x3E000000#32) := by
  simp [Ideal.ofBits, Ideal.ieee]
  exact IsR.mul ⟨_, rfl⟩ ⟨_, rfl⟩

end Cert.Hand
-- ==== Proof.Eq.lean ====
module

public import proofs.«01_k».proof.Proof.RVal
public import proofs.«01_k».proof.Proof.Softmax

@[expose] public section

noncomputable section

namespace Cert.Hand

open Idealize.ShloMosaic
open Cert.KernelIdeal.Hand (mx smx qv sv hv)
open Cert.ReferenceIdeal.Hand (scores expo weights attend)

abbrev Sx : Shape := ⟨3, ![2, 128, 512]⟩
abbrev Sq : Shape := ⟨2, ![512, 256]⟩
abbrev So : Shape := ⟨2, ![256, 512]⟩
/-- One device's keys, and the whole. -/
abbrev Sk : Shape := ⟨4, ![2, 128, 4, 64]⟩
abbrev Sw : Shape := ⟨4, ![2, 512, 4, 64]⟩

/-! ## The reference's attention is the kernel's -/

/-- The score of a query and any of the 512 keys, before the mask. -/
def score (x : Sx.Idx → EReal) (wq : Sq.Idx → EReal) (K : Sw.Idx → EReal) (b : Fin 2) (h : Fin 4) (i : Fin 128) (j : Fin 512) : EReal :=
  ∑ e : Fin 64, qv x wq b i ⟨64 * h.val + e.val, by omega⟩ * K (ix4 b j h e)

/-- How many keys the block of query `i` sees. -/
def seen (i : Fin 128) : ℕ := if i.val < 64 then 64 else 128

theorem seen_iff (i : Fin 128) (j : Fin 512) : j.val / 64 ≤ i.val / 64 ↔ j.val < seen i := by
  unfold seen
  split <;> omega

theorem scores_masked (x : Sx.Idx → EReal) (wq : Sq.Idx → EReal) (K : Sw.Idx → EReal) (b : Fin 2) (h : Fin 4) (i : Fin 128) :
    (fun j => scores (F := Ideal) x wq K (ix4 b h i j)) = masked (seen i) (score x wq K b h i) := by
  funext j
  rw [Cert.ReferenceIdeal.Hand.scores_apply]
  unfold masked
  simp only [seen_iff]
  refine congrArg (fun z : EReal => if j.val < seen i then z else ⊥) ?_
  unfold score qv
  exact (sum_scale _ _ _ _ scale_nonneg scale_isR.ne_top).symm

theorem weights_smx (x : Sx.Idx → EReal) (wq : Sq.Idx → EReal) (K : Sw.Idx → EReal) (b : Fin 2) (h : Fin 4) (i : Fin 128) (j : Fin 512) :
    weights (F := Ideal) (expo (scores x wq K)) (ix4 b h i j) = smx (masked (seen i) (score x wq K b h i)) j := by
  rw [Cert.ReferenceIdeal.Hand.weights_apply _ Cert.ReferenceIdeal.Hand.keep_apply]
  simp only [Cert.ReferenceIdeal.Hand.expo_apply]
  rw [← scores_masked]
  rfl

/-- A query's projections are numbers. -/
theorem qv_isR (x : Sx.Idx → EReal) (wq : Sq.Idx → EReal) (hx : ∀ i, IsR (x i)) (hq : ∀ i, IsR (wq i)) (b : Fin 2) (i : Fin 128) (n : Fin 256) :
    IsR (qv x wq b i n) :=
  (IsR.sum _ _ fun _ _ => (hx _).mul (hq _)).mul scale_isR

/-- A head of the reference is a head of the kernel, whose keys and values are the first 128 of the whole. -/
theorem head_eq (x : Sx.Idx → EReal) (wq : Sq.Idx → EReal) (K V : Sw.Idx → EReal) (k v : Sk.Idx → EReal)
    (hx : ∀ i, IsR (x i)) (hq : ∀ i, IsR (wq i)) (hk : ∀ i, IsR (k i))
    (hK : ∀ (b : Fin 2) (j : Fin 128) (h : Fin 4) (e : Fin 64), k (ix4 b j h e) = K (ix4 b ⟨j.val, by omega⟩ h e))
    (hV : ∀ (b : Fin 2) (j : Fin 128) (h : Fin 4) (e : Fin 64), v (ix4 b j h e) = V (ix4 b ⟨j.val, by omega⟩ h e))
    (b : Fin 2) (h : Fin 4) (i : Fin 128) (d : Fin 64) :
    ∑ j : Fin 512, V (ix4 b j h d) * smx (masked (seen i) (score x wq K b h i)) j = hv x wq k v b h i d := by
  have hs (j : Fin 128) : score x wq K b h i ⟨j.val, by omega⟩ = sv x wq k b h i j := by
    unfold score sv
    simp only [hK]
  have hr (j : Fin 128) : IsR (sv x wq k b h i j) :=
    IsR.sum _ _ fun _ _ => (qv_isR x wq hx hq _ _ _).mul (hk _)
  unfold hv
  by_cases hi : i.val < 64
  · rw [if_pos hi, show seen i = 64 from if_pos hi,
      masked_attend (n := 64) (by omega) (by omega) _ (fun j => V (ix4 b j h d)) fun j => by
        rw [show score x wq K b h i (Fin.castLE _ j) = _ from hs ⟨j.val, by omega⟩]; exact hr _]
    refine Finset.sum_congr rfl fun j _ => congrArg₂ (· * ·) ?_ (hV b ⟨j.val, by omega⟩ h d).symm
    exact congrArg (fun f => smx f j) (funext fun t => hs ⟨t.val, by omega⟩)
  · rw [if_neg hi, show seen i = 128 from if_neg hi,
      masked_attend (n := 128) (by omega) (by omega) _ (fun j => V (ix4 b j h d)) fun j => by
        rw [show score x wq K b h i (Fin.castLE _ j) = _ from hs j]; exact hr _]
    refine Finset.sum_congr rfl fun j _ => congrArg₂ (· * ·) ?_ (hV b j h d).symm
    exact congrArg (fun f => smx f j) (funext fun t => hs t)

/-- The reference's result is the kernel's, at an index. -/
theorem attend_eq (x : Sx.Idx → EReal) (wq : Sq.Idx → EReal) (wo : So.Idx → EReal) (K V : Sw.Idx → EReal) (k v : Sk.Idx → EReal)
    (hx : ∀ i, IsR (x i)) (hq : ∀ i, IsR (wq i)) (hk : ∀ i, IsR (k i))
    (hK : ∀ (b : Fin 2) (j : Fin 128) (h : Fin 4) (e : Fin 64), k (ix4 b j h e) = K (ix4 b ⟨j.val, by omega⟩ h e))
    (hV : ∀ (b : Fin 2) (j : Fin 128) (h : Fin 4) (e : Fin 64), v (ix4 b j h e) = V (ix4 b ⟨j.val, by omega⟩ h e))
    (b : Fin 2) (i : Fin 128) (n : Fin 512) :
    attend (F := Ideal) V wo (weights (expo (scores x wq K))) (ix3 b i n)
      = ∑ w : Fin 256, hv x wq k v b ⟨w.val / 64, by omega⟩ i ⟨w.val % 64, by omega⟩ * wo (ix2 w n) := by
  rw [Cert.ReferenceIdeal.Hand.attend_apply]
  refine Finset.sum_congr rfl fun w _ => congrArg (· * _) ?_
  simp only [weights_smx]
  exact head_eq x wq K V k v hx hq hk hK hV _ _ _ _

end Cert.Hand
-- ==== Proof.Finite.lean ====
module

public import proofs.«01_k».proof.Pre_finite_inputs_KernelIdeal
public import proofs.«01_k».proof.Pre_finite_inputs_ReferenceIdeal
public import proofs.«01_k».proof.Proof.Softmax
public import Idealize.ShloMosaic.Lib.ReduceAll

@[expose] public section

set_option maxRecDepth 16384

noncomputable section

namespace Cert.Hand

open Idealize.ShloMosaic

/-! ## What the precondition says -/

theorem pre_facts_kernel : Cert.Pre_finite_inputs_KernelIdeal.Facts := by
  constructor <;> decide

theorem pre_facts_reference : Cert.Pre_finite_inputs_ReferenceIdeal.Facts := by
  constructor <;> decide

theorem inf_eq : Ideal.ofBits .f32 0x7F800000#32 = ⊤ := by simp [Ideal.ofBits, Ideal.ieee]

/-- A value whose absolute value is below +∞ is a number. -/
theorem isR_of_lt (y : EReal) (h : Ideal.cmp .olt (max y (-y)) (Ideal.ofBits .f32 0x7F800000#32) = 1#1) : IsR y := by
  rw [inf_eq] at h
  unfold Ideal.cmp at h
  refine IsR.of_ne (fun e => ?_) (fun e => ?_) <;> subst e <;> simp at h

/-- One bit and another are 1 only if both are. -/
theorem and_one : ∀ a b : BitVec 1, IntOp.andi a b = 1#1 → a = 1#1 ∧ b = 1#1 := by decide

theorem finite_of_pre [Cert.Pre_finite_inputs_KernelIdeal.Facts]
    (x : Cert.Pre_finite_inputs_KernelIdeal.S2x128x512.Idx → EReal) (wq : Cert.Pre_finite_inputs_KernelIdeal.S512x256.Idx → EReal)
    (k v : Cert.Pre_finite_inputs_KernelIdeal.S2x128x4x64.Idx → EReal) (wo : Cert.Pre_finite_inputs_KernelIdeal.S256x512.Idx → EReal)
    (h : Cert.Pre_finite_inputs_KernelIdeal.fn (F := Ideal) x wq k v wo = fun _ => 1#1) :
    (∀ i, IsR (x i)) ∧ (∀ i, IsR (wq i)) ∧ (∀ i, IsR (k i)) := by
  have h0 := congrFun h ix0
  unfold Cert.Pre_finite_inputs_KernelIdeal.fn at h0
  obtain ⟨h1, hk⟩ := and_one _ _ h0
  obtain ⟨hx, hq⟩ := and_one _ _ h1
  have : Subsingleton Cert.Pre_finite_inputs_KernelIdeal.S_.Idx := ⟨fun a b => funext fun z => z.elim0⟩
  exact ⟨fun i => isR_of_lt _ (Host.reduce_andi_all _ _ _ _ _ hx i), fun i => isR_of_lt _ (Host.reduce_andi_all _ _ _ _ _ hq i),
    fun i => isR_of_lt _ (Host.reduce_andi_all _ _ _ _ _ hk i)⟩

end Cert.Hand
-- ==== Proof.OutVal.lean ====
module

public import proofs.«01_k».proof.Proof.Launch
public import proofs.«01_k».proof.Proof.KVal
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## What the launch leaves in the result array, at an index -/

variable (m : (ℓ : Loc nD τ sig) → Buf (Elt Ideal) ℓ) (ρ : Dev nD → PrngReg)

theorem xIn_eq (c : Dev nD) : xIn m c = m ((c.tc : Thread nD τ).loc main_arg0) := by
  funext i
  refine congrArg (m ((c.tc : Thread nD τ).loc main_arg0)) ?_
  funext a
  apply Fin.ext
  exact Window.rect_emb_val_of_index_zero (cfg0.win 0) t₀ a ((by decide +kernel : ∀ a, (cfg0.win 0).index t₀ a = 0) a) _

theorem wqIn_eq (c : Dev nD) : wqIn m c = m ((c.tc : Thread nD τ).loc main_arg1) := by
  funext i
  refine congrArg (m ((c.tc : Thread nD τ).loc main_arg1)) ?_
  funext a
  apply Fin.ext
  exact Window.rect_emb_val_of_index_zero (cfg0.win 1) t₀ a ((by decide +kernel : ∀ a, (cfg0.win 1).index t₀ a = 0) a) _

theorem woIn_eq (c : Dev nD) : woIn m c = m ((c.tc : Thread nD τ).loc main_arg4) := by
  funext i
  refine congrArg (m ((c.tc : Thread nD τ).loc main_arg4)) ?_
  funext a
  apply Fin.ext
  exact Window.rect_emb_val_of_index_zero (cfg0.win 2) t₀ a ((by decide +kernel : ∀ a, (cfg0.win 2).index t₀ a = 0) a) _

theorem finalA_out (c : Dev nD) : finalA m ρ c 3 = outAt m c :=
  (dats m ρ 0 c).arrAt_eq_of_after_last 3 t₀ (by decide +kernel) (outAt m c) fun j => rfl

theorem outAt_apply (c : Dev nD) (b : Fin 2) (i : Fin 128) (n : Fin 512) :
    outAt m c (ix3 b i n) = ∑ w : Fin 256, hv (m ((c.tc : Thread nD τ).loc main_arg0)) (m ((c.tc : Thread nD τ).loc main_arg1)) (kIn m) (vIn m) b ⟨w.val / 64, by omega⟩ i ⟨w.val % 64, by omega⟩
      * m ((c.tc : Thread nD τ).loc main_arg4) (ix2 w n) := by
  have hr : inRow (ix3 b i n) = ix3 0 i n := by
    funext a
    match a with
    | ⟨0, _⟩ => rfl
    | ⟨1, _⟩ => rfl
    | ⟨2, _⟩ => rfl
  rw [← xIn_eq m c, ← wqIn_eq m c, ← woIn_eq m c]
  unfold outAt outOf
  rw [hr]
  match b with
  | ⟨0, _⟩ => exact (if_pos rfl).trans (row0_apply m _ _ _ i n)
  | ⟨1, _⟩ => exact (if_neg (by show ¬ (1 = 0); omega)).trans (row1_apply m _ _ _ i n)

/-- Every run: the result on every device, at every index, and the arguments unchanged. -/
theorem run_value : θ_run defs (onTc (τ := τ) (main (F := Ideal))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h.1 c).1 3).trans (finalA_out m ρ c), ((h.1 c).1 0).trans (finalA_in m ρ c 0 rfl), ((h.1 c).1 1).trans (finalA_in m ρ c 1 rfl), (h.1 c).2.1, (h.1 c).2.2,
      ((h.1 c).1 2).trans (finalA_in m ρ c 2 rfl)⟩) (run_main m ρ)

end Cert.KernelIdeal.Hand
-- ==== Proof.Algebraic.lean ====
module

public import proofs.«01_k».proof.Proof.Frames
public import proofs.«01_k».proof.Proof.Eq
public import proofs.«01_k».proof.Proof.Finite
public import proofs.«01_k».proof.Proof.OutVal

@[expose] public section

set_option maxRecDepth 16384

noncomputable section

namespace Cert.Hand

open Idealize.ShloMosaic Idealize.SL.Sem

/-! ## The kernel computes the reference's result -/

/-- Device 0 holds the first 128 of the 512 keys (or values). -/
theorem block_first (v : Sw.Idx → EReal) (b : Fin 2) (j : Fin 128) (h : Fin 4) (e : Fin 64) :
    Layout.block Sk Sw 1 4 0 v (by decide) (ix4 b j h e) = v (ix4 b ⟨j.val, by omega⟩ h e) := by
  refine congrArg v ?_
  funext a
  apply Fin.ext
  rw [Layout.Tiles.idx_val]
  match a with
  | ⟨0, _⟩ => rfl
  | ⟨1, _⟩ => show 0 * 128 + j.val = j.val; omega
  | ⟨2, _⟩ => rfl
  | ⟨3, _⟩ => rfl

theorem algebraic [Cert.Pre_finite_inputs_KernelIdeal.Facts] : Cert.algebraic_KernelIdeal_ReferenceIdeal_pre_finite_inputs_KernelIdeal := by
  intro m g m' g' hpre harg
  refine ⟨Cert.ReferenceIdeal.Value.res_main_v33 (F := Ideal) m' 0, ?_, ?_⟩
  · refine (θ_run Cert.KernelIdeal.defs _ _).mono (fun r h c => ⟨(h c).1.trans ?_, (h c).2⟩) (Cert.KernelIdeal.Hand.run_value m g)
    rw [Cert.ReferenceIdeal.Hand.res_eq]
    obtain ⟨hx, hq, -⟩ := finite_of_pre _ _ _ _ _ (hpre c)
    obtain ⟨-, -, hk⟩ := finite_of_pre _ _ _ _ _ (hpre 0)
    funext i
    obtain ⟨b, a, n, rfl⟩ : ∃ (b : Fin 2) (a : Fin 128) (n : Fin 512), i = ix3 b a n := ⟨i 0, i 1, i 2, ValueIdx.eq_ix3 i⟩
    refine (Cert.KernelIdeal.Hand.outAt_apply m c b a n).trans ?_
    have hK (b : Fin 2) (j : Fin 128) (h : Fin 4) (e : Fin 64) := (congrFun (harg 0).2.2.1 (ix4 b j h e)).trans (block_first _ b j h e)
    have hV (b : Fin 2) (j : Fin 128) (h : Fin 4) (e : Fin 64) := (congrFun (harg 0).2.2.2.1 (ix4 b j h e)).trans (block_first _ b j h e)
    have := attend_eq _ _ (m ((c.tc : Thread Cert.KernelIdeal.nD Cert.KernelIdeal.τ).loc Cert.KernelIdeal.main_arg4)) _ _ _ _ hx hq hk hK hV b a n
    rw [(harg c).1, (harg c).2.1, (harg c).2.2.2.2] at this ⊢
    exact this.symm
  · exact (θ_run Cert.ReferenceIdeal.defs _ _).mono (fun r h => h 0) (Cert.ReferenceIdeal.Value.run (F := Ideal) m' g')

end Cert.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.Hand.pre_facts_kernel, Cert.Hand.pre_facts_reference,
  Cert.Hand.frame_kernel, Cert.Hand.frame_ideal, fun m ρ _ => Cert.Hand.frame_ideal m ρ trivial,
  Cert.Hand.frame_reference, fun m ρ _ => Cert.Hand.frame_reference m ρ trivial, trivial,
  @Cert.Hand.algebraic Cert.Hand.pre_facts_kernel⟩

end Cert.Proof

end
